-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_inf [hPre_logits_below_inf : Cert.Pre_logits_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_inf [hPre_logits_below_inf : Cert.Pre_logits_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_below_inf [hKernelIdeal : Cert.KernelIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_below_inf [hReferenceIdeal : Cert.ReferenceIdeal.Facts] [hPre_logits_below_inf : Cert.Pre_logits_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_logits_below_inf [hKernelIdeal : Cert.KernelIdeal.Facts] [hReferenceIdeal : Cert.ReferenceIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_logits_below_inf : Cert.Pre_logits_below_inf.Facts),
    quiescent_Kernel (hKernel := hKernel)
    ∧ quiescent_KernelIdeal (hKernelIdeal := hKernelIdeal)
    ∧ quiescent_KernelIdeal_pre_logits_below_inf (hKernelIdeal := hKernelIdeal) (hPre_logits_below_inf := hPre_logits_below_inf)
    ∧ quiescent_ReferenceIdeal (hReferenceIdeal := hReferenceIdeal)
    ∧ quiescent_ReferenceIdeal_pre_logits_below_inf (hReferenceIdeal := hReferenceIdeal) (hPre_logits_below_inf := hPre_logits_below_inf)
    ∧ preserves_Kernel_KernelIdeal
    ∧ algebraic_KernelIdeal_ReferenceIdeal_pre_logits_below_inf (hKernelIdeal := hKernelIdeal) (hReferenceIdeal := hReferenceIdeal) (hPre_logits_below_inf := hPre_logits_below_inf)
-- ==== Pre_logits_below_inf.lean ====
abbrev S1024x100x81 : Shape := ⟨3, ![1024, 100, 81]⟩
abbrev S1024x100x29 : Shape := ⟨3, ![1024, 100, 29]⟩
abbrev S1024x100x4 : Shape := ⟨3, ![1024, 100, 4]⟩
abbrev S1024x2 : Shape := ⟨2, ![1024, 2]⟩
abbrev S29x81 : Shape := ⟨2, ![29, 81]⟩
abbrev S_ : Shape := ⟨0, ![]⟩

class Facts : Prop where
  bcast_S_S1024x100x81 : S_.BroadcastsInDim S1024x100x81 (![] : Fin 0 → Fin S1024x100x81.rank)

variable [Facts]

def fn {F : FTy → Type} [FloatOps F] (main_arg0 : FVec F S1024x100x81 .f32) (main_arg1 : FVec F S1024x100x29 .f32) (main_arg2 : FVec F S1024x100x4 .f32) (main_arg3 : FVec F S1024x100x4 .f32) (main_arg4 : IVec S1024x2 32) (main_arg5 : FVec F S29x81 .f32) : IVec S1024x100x81 1 :=
  let main_cst : FVec F S_ .f32 := constant S_ .f32 0x7F800000#32
  let main_v0 : FVec F S1024x100x81 .f32 := broadcastInDim S1024x100x81 ![] bcast_S_S1024x100x81 main_cst
  let main_v1 : IVec S1024x100x81 1 := cmpf .olt main_arg0 main_v0
  main_v1
-- ==== Kernel.lean ====
abbrev S1024x100x81 : Shape := ⟨3, ![1024, 100, 81]⟩
abbrev S1024x100x29 : Shape := ⟨3, ![1024, 100, 29]⟩
abbrev S1024x100x4 : Shape := ⟨3, ![1024, 100, 4]⟩
abbrev S1024x2 : Shape := ⟨2, ![1024, 2]⟩
abbrev S29x81 : Shape := ⟨2, ![29, 81]⟩
abbrev S81x29 : Shape := ⟨2, ![81, 29]⟩
abbrev S80x29 : Shape := ⟨2, ![80, 29]⟩
abbrev S1024x400 : Shape := ⟨2, ![1024, 400]⟩
abbrev S1024x200 : Shape := ⟨2, ![1024, 200]⟩
abbrev S1024x800 : Shape := ⟨2, ![1024, 800]⟩
abbrev S32x100x81 : Shape := ⟨3, ![32, 100, 81]⟩
abbrev S32x100x29 : Shape := ⟨3, ![32, 100, 29]⟩
abbrev S32x400 : Shape := ⟨2, ![32, 400]⟩
abbrev S32x2 : Shape := ⟨2, ![32, 2]⟩
abbrev S32x200 : Shape := ⟨2, ![32, 200]⟩
abbrev S32x800 : Shape := ⟨2, ![32, 800]⟩
abbrev S32x100 : Shape := ⟨2, ![32, 100]⟩
abbrev S32x100x1 : Shape := ⟨3, ![32, 100, 1]⟩
abbrev S32x100x80 : Shape := ⟨3, ![32, 100, 80]⟩
abbrev S32x1 : Shape := ⟨2, ![32, 1]⟩
abbrev S32x398 : Shape := ⟨2, ![32, 398]⟩
abbrev S3200x80 : Shape := ⟨2, ![3200, 80]⟩
abbrev S3200x29 : Shape := ⟨2, ![3200, 29]⟩
abbrev S1024x200x4 : Shape := ⟨3, ![1024, 200, 4]⟩

abbrev nBuf : Space → Nat
  | .hbm => 14
  | .vmem => 17
  | .smem => 0
  | _ => 0

abbrev bufTy : (tb : Table) → Fin (tcTables nBuf tb) → BufTy
  | .hbm, ⟨0, _⟩ => ⟨S1024x100x81, .f32⟩
  | .hbm, ⟨1, _⟩ => ⟨S1024x100x29, .f32⟩
  | .hbm, ⟨2, _⟩ => ⟨S1024x100x4, .f32⟩
  | .hbm, ⟨3, _⟩ => ⟨S1024x100x4, .f32⟩
  | .hbm, ⟨4, _⟩ => ⟨S1024x2, .i32⟩
  | .hbm, ⟨5, _⟩ => ⟨S29x81, .f32⟩
  | .hbm, ⟨6, _⟩ => ⟨S81x29, .f32⟩
  | .hbm, ⟨7, _⟩ => ⟨S80x29, .f32⟩
  | .hbm, ⟨8, _⟩ => ⟨S1024x400, .f32⟩
  | .hbm, ⟨9, _⟩ => ⟨S1024x400, .f32⟩
  | .hbm, ⟨10, _⟩ => ⟨S1024x200, .i32⟩
  | .hbm, ⟨11, _⟩ => ⟨S1024x800, .f32⟩
  | .hbm, ⟨12, _⟩ => ⟨S1024x100x29, .f32⟩
  | .hbm, ⟨13, _⟩ => ⟨S1024x200x4, .f32⟩
  | .local _ .vmem, ⟨0, _⟩ => ⟨S32x100x81, .f32⟩
  | .local _ .vmem, ⟨1, _⟩ => ⟨S32x100x81, .f32⟩
  | .local _ .vmem, ⟨2, _⟩ => ⟨S32x100x29, .f32⟩
  | .local _ .vmem, ⟨3, _⟩ => ⟨S32x100x29, .f32⟩
  | .local _ .vmem, ⟨4, _⟩ => ⟨S32x400, .f32⟩
  | .local _ .vmem, ⟨5, _⟩ => ⟨S32x400, .f32⟩
  | .local _ .vmem, ⟨6, _⟩ => ⟨S32x400, .f32⟩
  | .local _ .vmem, ⟨7, _⟩ => ⟨S32x400, .f32⟩
  | .local _ .vmem, ⟨8, _⟩ => ⟨S32x2, .i32⟩
  | .local _ .vmem, ⟨9, _⟩ => ⟨S32x2, .i32⟩
  | .local _ .vmem, ⟨10, _⟩ => ⟨S80x29, .f32⟩
  | .local _ .vmem, ⟨11, _⟩ => ⟨S32x200, .i32⟩
  | .local _ .vmem, ⟨12, _⟩ => ⟨S32x200, .i32⟩
  | .local _ .vmem, ⟨13, _⟩ => ⟨S32x800, .f32⟩
  | .local _ .vmem, ⟨14, _⟩ => ⟨S32x800, .f32⟩
  | .local _ .vmem, ⟨15, _⟩ => ⟨S32x100x29, .f32⟩
  | .local _ .vmem, ⟨16, _⟩ => ⟨S32x100x29, .f32⟩
  | _, _ => ⟨S1024x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x100x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100x29 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S80x29 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x200 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x100x29 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x100x81 : Shape := ⟨3, ![1024, 100, 81]⟩
abbrev S1024x100x29 : Shape := ⟨3, ![1024, 100, 29]⟩
abbrev S1024x100x4 : Shape := ⟨3, ![1024, 100, 4]⟩
abbrev S1024x2 : Shape := ⟨2, ![1024, 2]⟩
abbrev S29x81 : Shape := ⟨2, ![29, 81]⟩
abbrev S_ : Shape := ⟨0, ![]⟩
abbrev S1024x100 : Shape := ⟨2, ![1024, 100]⟩
abbrev S1024x100x1 : Shape := ⟨3, ![1024, 100, 1]⟩
abbrev S1024x100x80 : Shape := ⟨3, ![1024, 100, 80]⟩
abbrev S1024x1 : Shape := ⟨2, ![1024, 1]⟩
abbrev S1024 : Shape := ⟨1, ![1024]⟩
abbrev S1024x4 : Shape := ⟨2, ![1024, 4]⟩
abbrev S1024x1x4 : Shape := ⟨3, ![1024, 1, 4]⟩
abbrev S1024x200 : Shape := ⟨2, ![1024, 200]⟩
abbrev S1024x200x4 : Shape := ⟨3, ![1024, 200, 4]⟩
abbrev S29 : Shape := ⟨1, ![29]⟩
abbrev S1x1x29 : Shape := ⟨3, ![1, 1, 29]⟩
abbrev S2969600 : Shape := ⟨1, ![2969600]⟩
abbrev S2969600x1 : Shape := ⟨2, ![2969600, 1]⟩
abbrev S2969600x2 : Shape := ⟨2, ![2969600, 2]⟩

abbrev nBuf : Space → Nat
  | .hbm => 129
  | .vmem => 0
  | .smem => 0
  | _ => 0

abbrev hbmTy0_0 (i : Nat) : BufTy := match i % 128 with
  | 0 => ⟨S1024x100x81, .f32⟩
  | 1 => ⟨S1024x100x29, .f32⟩
  | 2 => ⟨S1024x100x4, .f32⟩
  | 3 => ⟨S1024x100x4, .f32⟩
  | 4 => ⟨S1024x2, .i32⟩
  | 5 => ⟨S29x81, .f32⟩
  | 6 => ⟨S_, .f32⟩
  | 7 => ⟨S1024x100, .f32⟩
  | 8 => ⟨S_, .f32⟩
  | 9 => ⟨S1024x100, .f32⟩
  | 10 => ⟨S1024x100, .f32⟩
  | 11 => ⟨S1024x100x1, .f32⟩
  | 12 => ⟨S1024x100x81, .f32⟩
  | 13 => ⟨S1024x100x81, .f32⟩
  | 14 => ⟨S1024x100x81, .f32⟩
  | 15 => ⟨S_, .f32⟩
  | 16 => ⟨S1024x100, .f32⟩
  | 17 => ⟨S1024x100x1, .f32⟩
  | 18 => ⟨S1024x100x81, .f32⟩
  | 19 => ⟨S1024x100x81, .f32⟩
  | 20 => ⟨S1024x100x80, .f32⟩
  | 21 => ⟨S_, .f32⟩
  | 22 => ⟨S1024x100, .f32⟩
  | 23 => ⟨S1024x100x80, .i32⟩
  | 24 => ⟨S_, .f32⟩
  | 25 => ⟨S_, .i32⟩
  | 26 => ⟨S1024x100, .f32⟩
  | 27 => ⟨S1024x100, .i32⟩
  | 28 => ⟨S1024x100x29, .f32⟩
  | 29 => ⟨S1024x100x29, .f32⟩
  | 30 => ⟨S_, .f32⟩
  | 31 => ⟨S1024x100x29, .f32⟩
  | 32 => ⟨S1024x100x29, .f32⟩
  | 33 => ⟨S_, .f32⟩
  | 34 => ⟨S1024x100x29, .f32⟩
  | 35 => ⟨S1024x100x29, .f32⟩
  | 36 => ⟨S1024x1, .i32⟩
  | 37 => ⟨S1024, .i32⟩
  | 38 => ⟨S1024, .f32⟩
  | 39 => ⟨S1024x1, .i32⟩
  | 40 => ⟨S1024, .i32⟩
  | 41 => ⟨S1024, .f32⟩
  | 42 => ⟨S1024x1, .f32⟩
  | 43 => ⟨S1024x1, .f32⟩
  | 44 => ⟨S1024x1, .f32⟩
  | 45 => ⟨S1024x1, .f32⟩
  | 46 => ⟨S1024x4, .f32⟩
  | 47 => ⟨S1024x100x1, .f32⟩
  | 48 => ⟨S1024x100x1, .f32⟩
  | 49 => ⟨S1024x100x1, .f32⟩
  | 50 => ⟨S1024x100x1, .f32⟩
  | 51 => ⟨S_, .f32⟩
  | 52 => ⟨S1024x100x1, .f32⟩
  | 53 => ⟨S1024x100x1, .f32⟩
  | 54 => ⟨S1024x100x1, .f32⟩
  | 55 => ⟨S_, .f32⟩
  | 56 => ⟨S1024x100x1, .f32⟩
  | 57 => ⟨S1024x100x1, .f32⟩
  | 58 => ⟨S1024x100x1, .f32⟩
  | 59 => ⟨S_, .f32⟩
  | 60 => ⟨S1024x100x1, .f32⟩
  | 61 => ⟨S1024x100x1, .f32⟩
  | 62 => ⟨S1024x100x1, .f32⟩
  | 63 => ⟨S_, .f32⟩
  | 64 => ⟨S1024x100x1, .f32⟩
  | 65 => ⟨S1024x100x1, .f32⟩
  | 66 => ⟨S1024x100x1, .f32⟩
  | 67 => ⟨S1024x100x4, .f32⟩
  | 68 => ⟨S1024x1x4, .f32⟩
  | 69 => ⟨S1024x100x4, .f32⟩
  | 70 => ⟨S1024x100x4, .f32⟩
  | 71 => ⟨S1024x100x1, .f32⟩
  | 72 => ⟨S1024x100x1, .f32⟩
  | 73 => ⟨S1024x100x1, .f32⟩
  | 74 => ⟨S1024x100x1, .f32⟩
  | 75 => ⟨S_, .f32⟩
  | 76 => ⟨S1024x100x1, .f32⟩
  | 77 => ⟨S1024x100x1, .f32⟩
  | 78 => ⟨S1024x100x1, .f32⟩
  | 79 => ⟨S_, .f32⟩
  | 80 => ⟨S1024x100x1, .f32⟩
  | 81 => ⟨S1024x100x1, .f32⟩
  | 82 => ⟨S1024x100x1, .f32⟩
  | 83 => ⟨S_, .f32⟩
  | 84 => ⟨S1024x100x1, .f32⟩
  | 85 => ⟨S1024x100x1, .f32⟩
  | 86 => ⟨S1024x100x1, .f32⟩
  | 87 => ⟨S_, .f32⟩
  | 88 => ⟨S1024x100x1, .f32⟩
  | 89 => ⟨S1024x100x1, .f32⟩
  | 90 => ⟨S1024x100x1, .f32⟩
  | 91 => ⟨S1024x100x4, .f32⟩
  | 92 => ⟨S1024x1x4, .f32⟩
  | 93 => ⟨S1024x100x4, .f32⟩
  | 94 => ⟨S1024x100x4, .f32⟩
  | 95 => ⟨S_, .i32⟩
  | 96 => ⟨S1024x100, .i32⟩
  | 97 => ⟨S1024x200, .i32⟩
  | 98 => ⟨S1024x200x4, .f32⟩
  | 99 => ⟨S1024x100x1, .f32⟩
  | 100 => ⟨S1024x100x29, .f32⟩
  | 101 => ⟨S1024x100x29, .f32⟩
  | 102 => ⟨S29, .i32⟩
  | 103 => ⟨S1x1x29, .i32⟩
  | 104 => ⟨S1024x100x29, .i32⟩
  | 105 => ⟨S1024x100x1, .i32⟩
  | 106 => ⟨S1024x100x29, .i32⟩
  | 107 => ⟨S2969600, .i32⟩
  | 108 => ⟨S2969600, .i32⟩
  | 109 => ⟨S_, .i32⟩
  | 110 => ⟨S2969600, .i32⟩
  | 111 => ⟨S2969600, .i1⟩
  | 112 => ⟨S_, .i32⟩
  | 113 => ⟨S2969600, .i32⟩
  | 114 => ⟨S2969600, .i32⟩
  | 115 => ⟨S2969600, .i32⟩
  | 116 => ⟨S_, .i32⟩
  | 117 => ⟨S2969600, .i32⟩
  | 118 => ⟨S2969600, .i1⟩
  | 119 => ⟨S_, .i32⟩
  | 120 => ⟨S2969600, .i32⟩
  | 121 => ⟨S2969600, .i32⟩
  | 122 => ⟨S2969600, .i32⟩
  | 123 => ⟨S2969600x1, .i32⟩
  | 124 => ⟨S2969600x1, .i32⟩
  | 125 => ⟨S2969600x2, .i32⟩
  | 126 => ⟨S2969600, .f32⟩
  | 127 => ⟨S1024x100x29, .f32⟩
  | _ => ⟨S1024x100x81, .f32⟩

abbrev hbmTy0_1 (i : Nat) : BufTy := match i % 128 with
  | 0 => ⟨S1024x100x29, .f32⟩
  | _ => ⟨S1024x100x81, .f32⟩

abbrev hbmTy (i : Nat) : BufTy := match i / 128 with
  | 0 => hbmTy0_0 i
  | 1 => hbmTy0_1 i
  | _ => ⟨S1024x100x81, .f32⟩

abbrev bufTy : (tb : Table) → Fin (tcTables nBuf tb) → BufTy
  | .hbm, ⟨i, _⟩ => hbmTy i
  | _, _ => ⟨S1024x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_13 : Ref sig .tc := ⟨.hbm, 109, rfl⟩
abbrev main_v84 : Ref sig .tc := ⟨.hbm, 110, rfl⟩
abbrev main_v85 : Ref sig .tc := ⟨.hbm, 111, rfl⟩
abbrev main_c_14 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_15 : Ref sig .tc := ⟨.hbm, 116, rfl⟩
abbrev main_v89 : Ref sig .tc := ⟨.hbm, 117, rfl⟩
abbrev main_v90 : Ref sig .tc := ⟨.hbm, 118, rfl⟩
abbrev main_c_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proof.RefRun.lean ====
/- The reference program as a straight line of host operations, cut into eight stretches, and its run:
   it ends with every buffer holding what the stretches leave there, one after the other. -/
module

public import proofs.«01_k».proof.Defs
public import proofs.«01_k».proof.Proof.Gen.ReferenceIdeal
public import Idealize.ShloMosaic.Lib.Claim
public import Idealize.ShloMosaic.Lib.Tactic

@[expose] public section

set_option maxRecDepth 16384

noncomputable section

namespace Cert.RefRun

open Cert.ReferenceIdeal Cert.ReferenceIdeal.Facts Cert.ReferenceIdeal.Facts₀ Idealize.ShloMosaic Idealize.ShloMosaic.TcCoe Idealize.SL.Sem Idealize.ShloMosaic.StableHlo

variable {F : FTy → Type} [FloatOps F]

/-- Operations run one list after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The operations that compute the softmax of the object logits, in order. -/
def opsA : List (HloOp τ sig (Elt F)) := [
  nullary main_cst (constant S_ .f32 0xFF800000#32),
  binary main_arg0 main_cst main_v0 ((fun x v => Host.reduce FloatOps.maximumf x v reducesTo_S1024x100x81_S1024x100_d2 h_S_) : (⟨S1024x100x81, .f32⟩ : BufTy).Contents (Elt F) → (⟨S_, .f32⟩ : BufTy).Contents (Elt F) → (⟨S1024x100, .f32⟩ : BufTy).Contents (Elt F)),
  nullary main_cst_0 (constant S_ .f32 0xFF800000#32),
  unary main_cst_0 main_v1 (broadcastInDim S1024x100 ![] bcast_S_S1024x100 : (⟨S_, .f32⟩ : BufTy).Contents (Elt F) → (⟨S1024x100, .f32⟩ : BufTy).Contents (Elt F)),
  binary main_v1 main_v0 main_v2 (maximumf : (⟨S1024x100, .f32⟩ : BufTy).Contents (Elt F) → (⟨S1024x100, .f32⟩ : BufTy).Contents (Elt F) → (⟨S1024x100, .f32⟩ : BufTy).Contents (Elt F)),
  unary main_v2 main_v3 (broadcastInDim S1024x100x1 ![0, 1] bcast_S1024x100_S1024x100x1_0_1 : (⟨S1024x100, .f32⟩ : BufTy).Contents (Elt F) → (⟨S1024x100x1, .f32⟩ : BufTy).Contents (Elt F)),
  unary main_v3 main_v4 (broadcastInDim S1024x100x81 ![0, 1, 2] bcast_S1024x100x1_S1024x100x81_0_1_2 : (⟨S1024x100x1, .f32⟩ : BufTy).Contents (Elt F) → (⟨S1024x100x81, .f32⟩ : BufTy).Contents (Elt F)),
  binary main_arg0 main_v4 main_v5 (subf : (⟨S1024x100x81, .f32⟩ : BufTy).Contents (Elt F) → (⟨S1024x100x81, .f32⟩ : BufTy).Contents (Elt F) → (⟨S1024x100x81, .f32⟩ : BufTy).Contents (Elt F)),
  unary main_v5 main_v6 (Host.exp : (⟨S1024x100x81, .f32⟩ : BufTy).Contents (Elt F) → (⟨S1024x100x81, .f32⟩ : BufTy).Contents (Elt F)),
  nullary main_cst_1 (constant S_ .f32 0x00000000#32),
  binary main_v6 main_cst_1 main_v7 ((fun x v => Host.reduceAdd x v reducesTo_S1024x100x81_S1024x100_d2 h_S_) : (⟨S1024x100x81, .f32⟩ : BufTy).Contents (Elt F) → (⟨S_, .f32⟩ : BufTy).Contents (Elt F) → (⟨S1024x100, .f32⟩ : BufTy).Contents (Elt F)),
  unary main_v7 main_v8 (broadcastInDim S1024x100x1 ![0, 1] bcast_S1024x100_S1024x100x1_0_1 : (⟨S1024x100, .f32⟩ : BufTy).Contents (Elt F) → (⟨S1024x100x1, .f32⟩ : BufTy).Contents (Elt F)),
  unary main_v8 main_v9 (broadcastInDim S1024x100x81 ![0, 1, 2] bcast_S1024x100x1_S1024x100x81_0_1_2 : (⟨S1024x100x1, .f32⟩ : BufTy).Contents (Elt F) → (⟨S1024x100x81, .f32⟩ : BufTy).Contents (Elt F)),
  binary main_v6 main_v9 main_v10 (Host.divf : (⟨S1024x100x81, .f32⟩ : BufTy).Contents (Elt F) → (⟨S1024x100x81, .f32⟩ : BufTy).Contents (Elt F) → (⟨S1024x100x81, .f32⟩ : BufTy).Contents (Elt F))]

/-- The buffers that those operations write. -/
def writesA : List (Ref sig .tc) := [main_cst, main_v0, main_cst_0, main_v1, main_v2, main_v3, main_v4, main_v5, main_v6, main_cst_1, main_v7, main_v8, main_v9, main_v10]

/-- A buffer that those operations do not write keeps its contents. -/
theorem keepA (V : Valuation τ sig (Elt F)) (r : Ref sig .tc) (hr : r ∉ writesA) :
    after (opsA (F := F)) V (Proc.devRef .tc r) = V (Proc.devRef .tc r) :=
  after_of_writes_sub opsA V (W := writesA) (forall_writes_sub_of_map rfl) hr

/-- The operations that compute the largest probability over the first eighty classes and its label, in order. -/
def opsB : List (HloOp τ sig (Elt F)) := [
  unary main_v10 main_v11 ((extractStridedSlice S1024x100x80 ![0, 0, 0] · slices_S1024x100x81_S1024x100x80_0_0_0) : (⟨S1024x100x81, .f32⟩ : BufTy).Contents (Elt F) → (⟨S1024x100x80, .f32⟩ : BufTy).Contents (Elt F)),
  nullary main_cst_2 (constant S_ .f32 0xFF800000#32),
  binary main_v11 main_cst_2 main_v12 ((fun x v => Host.reduce FloatOps.maximumf x v reducesTo_S1024x100x80_S1024x100_d2 h_S_) : (⟨S1024x100x80, .f32⟩ : BufTy).Contents (Elt F) → (⟨S_, .f32⟩ : BufTy).Contents (Elt F) → (⟨S1024x100, .f32⟩ : BufTy).Contents (Elt F)),
  nullary main_call0_v0 (iotaInDim S1024x100x80 32 2),
  nullary main_call0_cst (constant S_ .f32 0xFF800000#32),
  nullary main_call0_c (constantI S_ 32 0#32),
  quaternary main_v11 main_call0_v0 main_call0_cst main_call0_c main_call0_v1_0 ((fun x y u v j => (Host.argReduce reducer_argmax_f32_i32 x y u v reducesTo_S1024x100x80_S1024x100_d2 h_S_ j).1) : (⟨S1024x100x80, .f32⟩ : BufTy).Contents (Elt F) → (⟨S1024x100x80, .i32⟩ : BufTy).Contents (Elt F) → (⟨S_, .f32⟩ : BufTy).Contents (Elt F) → (⟨S_, .i32⟩ : BufTy).Contents (Elt F) → (⟨S1024x100, .f32⟩ : BufTy).Contents (Elt F)),
  quaternary main_v11 main_call0_v0 main_call0_cst main_call0_c main_v13 ((fun x y u v j => (Host.argReduce reducer_argmax_f32_i32 x y u v reducesTo_S1024x100x80_S1024x100_d2 h_S_ j).2) : (⟨S1024x100x80, .f32⟩ : BufTy).Contents (Elt F) → (⟨S1024x100x80, .i32⟩ : BufTy).Contents (Elt F) → (⟨S_, .f32⟩ : BufTy).Contents (Elt F) → (⟨S_, .i32⟩ : BufTy).Contents (Elt F) → (⟨S1024x100, .i32⟩ : BufTy).Contents (Elt F))]

/-- The buffers that those operations write. -/
def writesB : List (Ref sig .tc) := [main_v11, main_cst_2, main_v12, main_call0_v0, main_call0_cst, main_call0_c, main_call0_v1_0, main_v13]

/-- A buffer that those operations do not write keeps its contents. -/
theorem keepB (V : Valuation τ sig (Elt F)) (r : Ref sig .tc) (hr : r ∉ writesB) :
    after (opsB (F := F)) V (Proc.devRef .tc r) = V (Proc.devRef .tc r) :=
  after_of_writes_sub opsB V (W := writesB) (forall_writes_sub_of_map rfl) hr

/-- The operations that compute the sigmoid of the verb logits, in order. -/
def opsC : List (HloOp τ sig (Elt F)) := [
  unary main_arg1 main_v14 (Host.negf : (⟨S1024x100x29, .f32⟩ : BufTy).Contents (Elt F) → (⟨S1024x100x29, .f32⟩ : BufTy).Contents (Elt F)),
  unary main_v14 main_v15 (Host.exp : (⟨S1024x100x29, .f32⟩ : BufTy).Contents (Elt F) → (⟨S1024x100x29, .f32⟩ : BufTy).Contents (Elt F)),
  nullary main_cst_3 (constant S_ .f32 0x3F800000#32),
  unary main_cst_3 main_v16 (broadcastInDim S1024x100x29 ![] bcast_S_S1024x100x29 : (⟨S_, .f32⟩ : BufTy).Contents (Elt F) → (⟨S1024x100x29, .f32⟩ : BufTy).Contents (Elt F)),
  binary main_v16 main_v15 main_v17 (addf : (⟨S1024x100x29, .f32⟩ : BufTy).Contents (Elt F) → (⟨S1024x100x29, .f32⟩ : BufTy).Contents (Elt F) → (⟨S1024x100x29, .f32⟩ : BufTy).Contents (Elt F)),
  nullary main_cst_4 (constant S_ .f32 0x3F800000#32),
  unary main_cst_4 main_v18 (broadcastInDim S1024x100x29 ![] bcast_S_S1024x100x29 : (⟨S_, .f32⟩ : BufTy).Contents (Elt F) → (⟨S1024x100x29, .f32⟩ : BufTy).Contents (Elt F)),
  binary main_v18 main_v17 main_v19 (Host.divf : (⟨S1024x100x29, .f32⟩ : BufTy).Contents (Elt F) → (⟨S1024x100x29, .f32⟩ : BufTy).Contents (Elt F) → (⟨S1024x100x29, .f32⟩ : BufTy).Contents (Elt F))]

/-- The buffers that those operations write. -/
def writesC : List (Ref sig .tc) := [main_v14, main_v15, main_cst_3, main_v16, main_v17, main_cst_4, main_v18, main_v19]

/-- A buffer that those operations do not write keeps its contents. -/
theorem keepC (V : Valuation τ sig (Elt F)) (r : Ref sig .tc) (hr : r ∉ writesC) :
    after (opsC (F := F)) V (Proc.devRef .tc r) = V (Proc.devRef .tc r) :=
  after_of_writes_sub opsC V (W := writesC) (forall_writes_sub_of_map rfl) hr

/-- The operations that compute the image sizes as a scale, in order. -/
def opsD : List (HloOp τ sig (Elt F)) := [
  unary main_arg4 main_v20 ((extractStridedSlice S1024x1 ![0, 0] · slices_S1024x2_S1024x1_0_0) : (⟨S1024x2, .i32⟩ : BufTy).Contents (Elt F) → (⟨S1024x1, .i32⟩ : BufTy).Contents (Elt F)),
  reshape main_v20 main_v21 (rfl : (.i32 : EltTy) = .i32) shapeCasts_S1024x1_S1024,
  unary main_v21 main_v22 (sitofp .f32 : (⟨S1024, .i32⟩ : BufTy).Contents (Elt F) → (⟨S1024, .f32⟩ : BufTy).Contents (Elt F)),
  unary main_arg4 main_v23 ((extractStridedSlice S1024x1 ![0, 1] · slices_S1024x2_S1024x1_0_1) : (⟨S1024x2, .i32⟩ : BufTy).Contents (Elt F) → (⟨S1024x1, .i32⟩ : BufTy).Contents (Elt F)),
  reshape main_v23 main_v24 (rfl : (.i32 : EltTy) = .i32) shapeCasts_S1024x1_S1024,
  unary main_v24 main_v25 (sitofp .f32 : (⟨S1024, .i32⟩ : BufTy).Contents (Elt F) → (⟨S1024, .f32⟩ : BufTy).Contents (Elt F)),
  unary main_v25 main_v26 (broadcastInDim S1024x1 ![0] bcast_S1024_S1024x1_0 : (⟨S1024, .f32⟩ : BufTy).Contents (Elt F) → (⟨S1024x1, .f32⟩ : BufTy).Contents (Elt F)),
  unary main_v22 main_v27 (broadcastInDim S1024x1 ![0] bcast_S1024_S1024x1_0 : (⟨S1024, .f32⟩ : BufTy).Contents (Elt F) → (⟨S1024x1, .f32⟩ : BufTy).Contents (Elt F)),
  unary main_v25 main_v28 (broadcastInDim S1024x1 ![0] bcast_S1024_S1024x1_0 : (⟨S1024, .f32⟩ : BufTy).Contents (Elt F) → (⟨S1024x1, .f32⟩ : BufTy).Contents (Elt F)),
  unary main_v22 main_v29 (broadcastInDim S1024x1 ![0] bcast_S1024_S1024x1_0 : (⟨S1024, .f32⟩ : BufTy).Contents (Elt F) → (⟨S1024x1, .f32⟩ : BufTy).Contents (Elt F)),
  nary ![main_v26, main_v27, main_v28, main_v29] main_v30 (fun u => (concatenate S1024x4 1 [⟨S1024x1, (u 0 : (⟨S1024x1, .f32⟩ : BufTy).Contents (Elt F))⟩, ⟨S1024x1, (u 1 : (⟨S1024x1, .f32⟩ : BufTy).Contents (Elt F))⟩, ⟨S1024x1, (u 2 : (⟨S1024x1, .f32⟩ : BufTy).Contents (Elt F))⟩, ⟨S1024x1, (u 3 : (⟨S1024x1, .f32⟩ : BufTy).Contents (Elt F))⟩] concatenates_S1024x1_S1024x1_S1024x1_S1024x1_S1024x4_d1 : (⟨S1024x4, .f32⟩ : BufTy).Contents (Elt F)))]

/-- The buffers that those operations write. -/
def writesD : List (Ref sig .tc) := [main_v20, main_v21, main_v22, main_v23, main_v24, main_v25, main_v26, main_v27, main_v28, main_v29, main_v30]

/-- A buffer that those operations do not write keeps its contents. -/
theorem keepD (V : Valuation τ sig (Elt F)) (r : Ref sig .tc) (hr : r ∉ writesD) :
    after (opsD (F := F)) V (Proc.devRef .tc r) = V (Proc.devRef .tc r) :=
  after_of_writes_sub opsD V (W := writesD) (forall_writes_sub_of_map rfl) hr

/-- The operations that compute the subject boxes, in order. -/
def opsE : List (HloOp τ sig (Elt F)) := [
  unary main_arg2 main_v31 ((extractStridedSlice S1024x100x1 ![0, 0, 0] · slices_S1024x100x4_S1024x100x1_0_0_0) : (⟨S1024x100x4, .f32⟩ : BufTy).Contents (Elt F) → (⟨S1024x100x1, .f32⟩ : BufTy).Contents (Elt F)),
  unary main_arg2 main_v32 ((extractStridedSlice S1024x100x1 ![0, 0, 1] · slices_S1024x100x4_S1024x100x1_0_0_1) : (⟨S1024x100x4, .f32⟩ : BufTy).Contents (Elt F) → (⟨S1024x100x1, .f32⟩ : BufTy).Contents (Elt F)),
  unary main_arg2 main_v33 ((extractStridedSlice S1024x100x1 ![0, 0, 2] · slices_S1024x100x4_S1024x100x1_0_0_2) : (⟨S1024x100x4, .f32⟩ : BufTy).Contents (Elt F) → (⟨S1024x100x1, .f32⟩ : BufTy).Contents (Elt F)),
  unary main_arg2 main_v34 ((extractStridedSlice S1024x100x1 ![0, 0, 3] · slices_S1024x100x4_S1024x100x1_0_0_3) : (⟨S1024x100x4, .f32⟩ : BufTy).Contents (Elt F) → (⟨S1024x100x1, .f32⟩ : BufTy).Contents (Elt F)),
  nullary main_cst_5 (constant S_ .f32 0x3F000000#32),
  unary main_cst_5 main_v35 (broadcastInDim S1024x100x1 ![] bcast_S_S1024x100x1 : (⟨S_, .f32⟩ : BufTy).Contents (Elt F) → (⟨S1024x100x1, .f32⟩ : BufTy).Contents (Elt F)),
  binary main_v35 main_v33 main_v36 (mulf : (⟨S1024x100x1, .f32⟩ : BufTy).Contents (Elt F) → (⟨S1024x100x1, .f32⟩ : BufTy).Contents (Elt F) → (⟨S1024x100x1, .f32⟩ : BufTy).Contents (Elt F)),
  binary main_v31 main_v36 main_v37 (subf : (⟨S1024x100x1, .f32⟩ : BufTy).Contents (Elt F) → (⟨S1024x100x1, .f32⟩ : BufTy).Contents (Elt F) → (⟨S1024x100x1, .f32⟩ : BufTy).Contents (Elt F)),
  nullary main_cst_6 (constant S_ .f32 0x3F000000#32),
  unary main_cst_6 main_v38 (broadcastInDim S1024x100x1 ![] bcast_S_S1024x100x1 : (⟨S_, .f32⟩ : BufTy).Contents (Elt F) → (⟨S1024x100x1, .f32⟩ : BufTy).Contents (Elt F)),
  binary main_v38 main_v34 main_v39 (mulf : (⟨S1024x100x1, .f32⟩ : BufTy).Contents (Elt F) → (⟨S1024x100x1, .f32⟩ : BufTy).Contents (Elt F) → (⟨S1024x100x1, .f32⟩ : BufTy).Contents (Elt F)),
  binary main_v32 main_v39 main_v40 (subf : (⟨S1024x100x1, .f32⟩ : BufTy).Contents (Elt F) → (⟨S1024x100x1, .f32⟩ : BufTy).Contents (Elt F) → (⟨S1024x100x1, .f32⟩ : BufTy).Contents (Elt F)),
  nullary main_cst_7 (constant S_ .f32 0x3F000000#32),
  unary main_cst_7 main_v41 (broadcastInDim S1024x100x1 ![] bcast_S_S1024x100x1 : (⟨S_, .f32⟩ : BufTy).Contents (Elt F) → (⟨S1024x100x1, .f32⟩ : BufTy).Contents (Elt F)),
  binary main_v41 main_v33 main_v42 (mulf : (⟨S1024x100x1, .f32⟩ : BufTy).Contents (Elt F) → (⟨S1024x100x1, .f32⟩ : BufTy).Contents (Elt F) → (⟨S1024x100x1, .f32⟩ : BufTy).Contents (Elt F)),
  binary main_v31 main_v42 main_v43 (addf : (⟨S1024x100x1, .f32⟩ : BufTy).Contents (Elt F) → (⟨S1024x100x1, .f32⟩ : BufTy).Contents (Elt F) → (⟨S1024x100x1, .f32⟩ : BufTy).Contents (Elt F)),
  nullary main_cst_8 (constant S_ .f32 0x3F000000#32),
  unary main_cst_8 main_v44 (broadcastInDim S1024x100x1 ![] bcast_S_S1024x100x1 : (⟨S_, .f32⟩ : BufTy).Contents (Elt F) → (⟨S1024x100x1, .f32⟩ : BufTy).Contents (Elt F)),
  binary main_v44 main_v34 main_v45 (mulf : (⟨S1024x100x1, .f32⟩ : BufTy).Contents (Elt F) → (⟨S1024x100x1, .f32⟩ : BufTy).Contents (Elt F) → (⟨S1024x100x1, .f32⟩ : BufTy).Contents (Elt F)),
  binary main_v32 main_v45 main_v46 (addf : (⟨S1024x100x1, .f32⟩ : BufTy).Contents (Elt F) → (⟨S1024x100x1, .f32⟩ : BufTy).Contents (Elt F) → (⟨S1024x100x1, .f32⟩ : BufTy).Contents (Elt F)),
  nary ![main_v37, main_v40, main_v43, main_v46] main_v47 (fun u => (concatenate S1024x100x4 2 [⟨S1024x100x1, (u 0 : (⟨S1024x100x1, .f32⟩ : BufTy).Contents (Elt F))⟩, ⟨S1024x100x1, (u 1 : (⟨S1024x100x1, .f32⟩ : BufTy).Contents (Elt F))⟩, ⟨S1024x100x1, (u 2 : (⟨S1024x100x1, .f32⟩ : BufTy).Contents (Elt F))⟩, ⟨S1024x100x1, (u 3 : (⟨S1024x100x1, .f32⟩ : BufTy).Contents (Elt F))⟩] concatenates_S1024x100x1_S1024x100x1_S1024x100x1_S1024x100x1_S1024x100x4_d2 : (⟨S1024x100x4, .f32⟩ : BufTy).Contents (Elt F))),
  unary main_v30 main_v48 (broadcastInDim S1024x1x4 ![0, 2] bcast_S1024x4_S1024x1x4_0_2 : (⟨S1024x4, .f32⟩ : BufTy).Contents (Elt F) → (⟨S1024x1x4, .f32⟩ : BufTy).Contents (Elt F)),
  unary main_v48 main_v49 (broadcastInDim S1024x100x4 ![0, 1, 2] bcast_S1024x1x4_S1024x100x4_0_1_2 : (⟨S1024x1x4, .f32⟩ : BufTy).Contents (Elt F) → (⟨S1024x100x4, .f32⟩ : BufTy).Contents (Elt F)),
  binary main_v47 main_v49 main_v50 (mulf : (⟨S1024x100x4, .f32⟩ : BufTy).Contents (Elt F) → (⟨S1024x100x4, .f32⟩ : BufTy).Contents (Elt F) → (⟨S1024x100x4, .f32⟩ : BufTy).Contents (Elt F))]

/-- The buffers that those operations write. -/
def writesE : List (Ref sig .tc) := [main_v31, main_v32, main_v33, main_v34, main_cst_5, main_v35, main_v36, main_v37, main_cst_6, main_v38, main_v39, main_v40, main_cst_7, main_v41, main_v42, main_v43, main_cst_8, main_v44, main_v45, main_v46, main_v47, main_v48, main_v49, main_v50]

/-- A buffer that those operations do not write keeps its contents. -/
theorem keepE (V : Valuation τ sig (Elt F)) (r : Ref sig .tc) (hr : r ∉ writesE) :
    after (opsE (F := F)) V (Proc.devRef .tc r) = V (Proc.devRef .tc r) :=
  after_of_writes_sub opsE V (W := writesE) (forall_writes_sub_of_map rfl) hr

/-- The operations that compute the object boxes, in order. -/
def opsF : List (HloOp τ sig (Elt F)) := [
  unary main_arg3 main_v51 ((extractStridedSlice S1024x100x1 ![0, 0, 0] · slices_S1024x100x4_S1024x100x1_0_0_0) : (⟨S1024x100x4, .f32⟩ : BufTy).Contents (Elt F) → (⟨S1024x100x1, .f32⟩ : BufTy).Contents (Elt F)),
  unary main_arg3 main_v52 ((extractStridedSlice S1024x100x1 ![0, 0, 1] · slices_S1024x100x4_S1024x100x1_0_0_1) : (⟨S1024x100x4, .f32⟩ : BufTy).Contents (Elt F) → (⟨S1024x100x1, .f32⟩ : BufTy).Contents (Elt F)),
  unary main_arg3 main_v53 ((extractStridedSlice S1024x100x1 ![0, 0, 2] · slices_S1024x100x4_S1024x100x1_0_0_2) : (⟨S1024x100x4, .f32⟩ : BufTy).Contents (Elt F) → (⟨S1024x100x1, .f32⟩ : BufTy).Contents (Elt F)),
  unary main_arg3 main_v54 ((extractStridedSlice S1024x100x1 ![0, 0, 3] · slices_S1024x100x4_S1024x100x1_0_0_3) : (⟨S1024x100x4, .f32⟩ : BufTy).Contents (Elt F) → (⟨S1024x100x1, .f32⟩ : BufTy).Contents (Elt F)),
  nullary main_cst_9 (constant S_ .f32 0x3F000000#32),
  unary main_cst_9 main_v55 (broadcastInDim S1024x100x1 ![] bcast_S_S1024x100x1 : (⟨S_, .f32⟩ : BufTy).Contents (Elt F) → (⟨S1024x100x1, .f32⟩ : BufTy).Contents (Elt F)),
  binary main_v55 main_v53 main_v56 (mulf : (⟨S1024x100x1, .f32⟩ : BufTy).Contents (Elt F) → (⟨S1024x100x1, .f32⟩ : BufTy).Contents (Elt F) → (⟨S1024x100x1, .f32⟩ : BufTy).Contents (Elt F)),
  binary main_v51 main_v56 main_v57 (subf : (⟨S1024x100x1, .f32⟩ : BufTy).Contents (Elt F) → (⟨S1024x100x1, .f32⟩ : BufTy).Contents (Elt F) → (⟨S1024x100x1, .f32⟩ : BufTy).Contents (Elt F)),
  nullary main_cst_10 (constant S_ .f32 0x3F000000#32),
  unary main_cst_10 main_v58 (broadcastInDim S1024x100x1 ![] bcast_S_S1024x100x1 : (⟨S_, .f32⟩ : BufTy).Contents (Elt F) → (⟨S1024x100x1, .f32⟩ : BufTy).Contents (Elt F)),
  binary main_v58 main_v54 main_v59 (mulf : (⟨S1024x100x1, .f32⟩ : BufTy).Contents (Elt F) → (⟨S1024x100x1, .f32⟩ : BufTy).Contents (Elt F) → (⟨S1024x100x1, .f32⟩ : BufTy).Contents (Elt F)),
  binary main_v52 main_v59 main_v60 (subf : (⟨S1024x100x1, .f32⟩ : BufTy).Contents (Elt F) → (⟨S1024x100x1, .f32⟩ : BufTy).Contents (Elt F) → (⟨S1024x100x1, .f32⟩ : BufTy).Contents (Elt F)),
  nullary main_cst_11 (constant S_ .f32 0x3F000000#32),
  unary main_cst_11 main_v61 (broadcastInDim S1024x100x1 ![] bcast_S_S1024x100x1 : (⟨S_, .f32⟩ : BufTy).Contents (Elt F) → (⟨S1024x100x1, .f32⟩ : BufTy).Contents (Elt F)),
  binary main_v61 main_v53 main_v62 (mulf : (⟨S1024x100x1, .f32⟩ : BufTy).Contents (Elt F) → (⟨S1024x100x1, .f32⟩ : BufTy).Contents (Elt F) → (⟨S1024x100x1, .f32⟩ : BufTy).Contents (Elt F)),
  binary main_v51 main_v62 main_v63 (addf : (⟨S1024x100x1, .f32⟩ : BufTy).Contents (Elt F) → (⟨S1024x100x1, .f32⟩ : BufTy).Contents (Elt F) → (⟨S1024x100x1, .f32⟩ : BufTy).Contents (Elt F)),
  nullary main_cst_12 (constant S_ .f32 0x3F000000#32),
  unary main_cst_12 main_v64 (broadcastInDim S1024x100x1 ![] bcast_S_S1024x100x1 : (⟨S_, .f32⟩ : BufTy).Contents (Elt F) → (⟨S1024x100x1, .f32⟩ : BufTy).Contents (Elt F)),
  binary main_v64 main_v54 main_v65 (mulf : (⟨S1024x100x1, .f32⟩ : BufTy).Contents (Elt F) → (⟨S1024x100x1, .f32⟩ : BufTy).Contents (Elt F) → (⟨S1024x100x1, .f32⟩ : BufTy).Contents (Elt F)),
  binary main_v52 main_v65 main_v66 (addf : (⟨S1024x100x1, .f32⟩ : BufTy).Contents (Elt F) → (⟨S1024x100x1, .f32⟩ : BufTy).Contents (Elt F) → (⟨S1024x100x1, .f32⟩ : BufTy).Contents (Elt F)),
  nary ![main_v57, main_v60, main_v63, main_v66] main_v67 (fun u => (concatenate S1024x100x4 2 [⟨S1024x100x1, (u 0 : (⟨S1024x100x1, .f32⟩ : BufTy).Contents (Elt F))⟩, ⟨S1024x100x1, (u 1 : (⟨S1024x100x1, .f32⟩ : BufTy).Contents (Elt F))⟩, ⟨S1024x100x1, (u 2 : (⟨S1024x100x1, .f32⟩ : BufTy).Contents (Elt F))⟩, ⟨S1024x100x1, (u 3 : (⟨S1024x100x1, .f32⟩ : BufTy).Contents (Elt F))⟩] concatenates_S1024x100x1_S1024x100x1_S1024x100x1_S1024x100x1_S1024x100x4_d2 : (⟨S1024x100x4, .f32⟩ : BufTy).Contents (Elt F))),
  unary main_v30 main_v68 (broadcastInDim S1024x1x4 ![0, 2] bcast_S1024x4_S1024x1x4_0_2 : (⟨S1024x4, .f32⟩ : BufTy).Contents (Elt F) → (⟨S1024x1x4, .f32⟩ : BufTy).Contents (Elt F)),
  unary main_v68 main_v69 (broadcastInDim S1024x100x4 ![0, 1, 2] bcast_S1024x1x4_S1024x100x4_0_1_2 : (⟨S1024x1x4, .f32⟩ : BufTy).Contents (Elt F) → (⟨S1024x100x4, .f32⟩ : BufTy).Contents (Elt F)),
  binary main_v67 main_v69 main_v70 (mulf : (⟨S1024x100x4, .f32⟩ : BufTy).Contents (Elt F) → (⟨S1024x100x4, .f32⟩ : BufTy).Contents (Elt F) → (⟨S1024x100x4, .f32⟩ : BufTy).Contents (Elt F))]

/-- The buffers that those operations write. -/
def writesF : List (Ref sig .tc) := [main_v51, main_v52, main_v53, main_v54, main_cst_9, main_v55, main_v56, main_v57, main_cst_10, main_v58, main_v59, main_v60, main_cst_11, main_v61, main_v62, main_v63, main_cst_12, main_v64, main_v65, main_v66, main_v67, main_v68, main_v69, main_v70]

/-- A buffer that those operations do not write keeps its contents. -/
theorem keepF (V : Valuation τ sig (Elt F)) (r : Ref sig .tc) (hr : r ∉ writesF) :
    after (opsF (F := F)) V (Proc.devRef .tc r) = V (Proc.devRef .tc r) :=
  after_of_writes_sub opsF V (W := writesF) (forall_writes_sub_of_map rfl) hr

/-- The operations that compute the label and box results, in order. -/
def opsG : List (HloOp τ sig (Elt F)) := [
  nullary main_c (constantI S_ 32 1#32),
  unary main_c main_v71 (broadcastInDim S1024x100 ![] bcast_S_S1024x100 : (⟨S_, .i32⟩ : BufTy).Contents (Elt F) → (⟨S1024x100, .i32⟩ : BufTy).Contents (Elt F)),
  binary main_v71 main_v13 main_v72 ((fun a b => concatenate S1024x200 1 [⟨S1024x100, a⟩, ⟨S1024x100, b⟩] concatenates_S1024x100_S1024x100_S1024x200_d1) : (⟨S1024x100, .i32⟩ : BufTy).Contents (Elt F) → (⟨S1024x100, .i32⟩ : BufTy).Contents (Elt F) → (⟨S1024x200, .i32⟩ : BufTy).Contents (Elt F)),
  binary main_v50 main_v70 main_v73 ((fun a b => concatenate S1024x200x4 1 [⟨S1024x100x4, a⟩, ⟨S1024x100x4, b⟩] concatenates_S1024x100x4_S1024x100x4_S1024x200x4_d1) : (⟨S1024x100x4, .f32⟩ : BufTy).Contents (Elt F) → (⟨S1024x100x4, .f32⟩ : BufTy).Contents (Elt F) → (⟨S1024x200x4, .f32⟩ : BufTy).Contents (Elt F))]

/-- The buffers that those operations write. -/
def writesG : List (Ref sig .tc) := [main_c, main_v71, main_v72, main_v73]

/-- A buffer that those operations do not write keeps its contents. -/
theorem keepG (V : Valuation τ sig (Elt F)) (r : Ref sig .tc) (hr : r ∉ writesG) :
    after (opsG (F := F)) V (Proc.devRef .tc r) = V (Proc.devRef .tc r) :=
  after_of_writes_sub opsG V (W := writesG) (forall_writes_sub_of_map rfl) hr

/-- The operations that compute the pair scores, in order. -/
def opsH : List (HloOp τ sig (Elt F)) := [
  unary main_v12 main_v74 (broadcastInDim S1024x100x1 ![0, 1] bcast_S1024x100_S1024x100x1_0_1 : (⟨S1024x100, .f32⟩ : BufTy).Contents (Elt F) → (⟨S1024x100x1, .f32⟩ : BufTy).Contents (Elt F)),
  unary main_v74 main_v75 (broadcastInDim S1024x100x29 ![0, 1, 2] bcast_S1024x100x1_S1024x100x29_0_1_2 : (⟨S1024x100x1, .f32⟩ : BufTy).Contents (Elt F) → (⟨S1024x100x29, .f32⟩ : BufTy).Contents (Elt F)),
  binary main_v19 main_v75 main_v76 (mulf : (⟨S1024x100x29, .f32⟩ : BufTy).Contents (Elt F) → (⟨S1024x100x29, .f32⟩ : BufTy).Contents (Elt F) → (⟨S1024x100x29, .f32⟩ : BufTy).Contents (Elt F)),
  nullary main_v77 (iotaInDim S29 32 0),
  unary main_v77 main_v78 (broadcastInDim S1x1x29 ![2] bcast_S29_S1x1x29_2 : (⟨S29, .i32⟩ : BufTy).Contents (Elt F) → (⟨S1x1x29, .i32⟩ : BufTy).Contents (Elt F)),
  unary main_v78 main_v79 (broadcastInDim S1024x100x29 ![0, 1, 2] bcast_S1x1x29_S1024x100x29_0_1_2 : (⟨S1x1x29, .i32⟩ : BufTy).Contents (Elt F) → (⟨S1024x100x29, .i32⟩ : BufTy).Contents (Elt F)),
  unary main_v13 main_v80 (broadcastInDim S1024x100x1 ![0, 1] bcast_S1024x100_S1024x100x1_0_1 : (⟨S1024x100, .i32⟩ : BufTy).Contents (Elt F) → (⟨S1024x100x1, .i32⟩ : BufTy).Contents (Elt F)),
  unary main_v80 main_v81 (broadcastInDim S1024x100x29 ![0, 1, 2] bcast_S1024x100x1_S1024x100x29_0_1_2 : (⟨S1024x100x1, .i32⟩ : BufTy).Contents (Elt F) → (⟨S1024x100x29, .i32⟩ : BufTy).Contents (Elt F)),
  reshape main_v79 main_v82 (rfl : (.i32 : EltTy) = .i32) shapeCasts_S1024x100x29_S2969600,
  reshape main_v81 main_v83 (rfl : (.i32 : EltTy) = .i32) shapeCasts_S1024x100x29_S2969600,
  nullary main_c_13 (constantI S_ 32 0#32),
  unary main_c_13 main_v84 (broadcastInDim S2969600 ![] bcast_S_S2969600 : (⟨S_, .i32⟩ : BufTy).Contents (Elt F) → (⟨S2969600, .i32⟩ : BufTy).Contents (Elt F)),
  binary main_v82 main_v84 main_v85 (cmpi .slt : (⟨S2969600, .i32⟩ : BufTy).Contents (Elt F) → (⟨S2969600, .i32⟩ : BufTy).Contents (Elt F) → (⟨S2969600, .i1⟩ : BufTy).Contents (Elt F)),
  nullary main_c_14 (constantI S_ 32 29#32),
  unary main_c_14 main_v86 (broadcastInDim S2969600 ![] bcast_S_S2969600 : (⟨S_, .i32⟩ : BufTy).Contents (Elt F) → (⟨S2969600, .i32⟩ : BufTy).Contents (Elt F)),
  binary main_v82 main_v86 main_v87 (addi : (⟨S2969600, .i32⟩ : BufTy).Contents (Elt F) → (⟨S2969600, .i32⟩ : BufTy).Contents (Elt F) → (⟨S2969600, .i32⟩ : BufTy).Contents (Elt F)),
  ternary main_v85 main_v87 main_v82 main_v88 (select : (⟨S2969600, .i1⟩ : BufTy).Contents (Elt F) → (⟨S2969600, .i32⟩ : BufTy).Contents (Elt F) → (⟨S2969600, .i32⟩ : BufTy).Contents (Elt F) → (⟨S2969600, .i32⟩ : BufTy).Contents (Elt F)),
  nullary main_c_15 (constantI S_ 32 0#32),
  unary main_c_15 main_v89 (broadcastInDim S2969600 ![] bcast_S_S2969600 : (⟨S_, .i32⟩ : BufTy).Contents (Elt F) → (⟨S2969600, .i32⟩ : BufTy).Contents (Elt F)),
  binary main_v83 main_v89 main_v90 (cmpi .slt : (⟨S2969600, .i32⟩ : BufTy).Contents (Elt F) → (⟨S2969600, .i32⟩ : BufTy).Contents (Elt F) → (⟨S2969600, .i1⟩ : BufTy).Contents (Elt F)),
  nullary main_c_16 (constantI S_ 32 81#32),
  unary main_c_16 main_v91 (broadcastInDim S2969600 ![] bcast_S_S2969600 : (⟨S_, .i32⟩ : BufTy).Contents (Elt F) → (⟨S2969600, .i32⟩ : BufTy).Contents (Elt F)),
  binary main_v83 main_v91 main_v92 (addi : (⟨S2969600, .i32⟩ : BufTy).Contents (Elt F) → (⟨S2969600, .i32⟩ : BufTy).Contents (Elt F) → (⟨S2969600, .i32⟩ : BufTy).Contents (Elt F)),
  ternary main_v90 main_v92 main_v83 main_v93 (select : (⟨S2969600, .i1⟩ : BufTy).Contents (Elt F) → (⟨S2969600, .i32⟩ : BufTy).Contents (Elt F) → (⟨S2969600, .i32⟩ : BufTy).Contents (Elt F) → (⟨S2969600, .i32⟩ : BufTy).Contents (Elt F)),
  unary main_v88 main_v94 (broadcastInDim S2969600x1 ![0] bcast_S2969600_S2969600x1_0 : (⟨S2969600, .i32⟩ : BufTy).Contents (Elt F) → (⟨S2969600x1, .i32⟩ : BufTy).Contents (Elt F)),
  unary main_v93 main_v95 (broadcastInDim S2969600x1 ![0] bcast_S2969600_S2969600x1_0 : (⟨S2969600, .i32⟩ : BufTy).Contents (Elt F) → (⟨S2969600x1, .i32⟩ : BufTy).Contents (Elt F)),
  binary main_v94 main_v95 main_v96 ((fun a b => concatenate S2969600x2 1 [⟨S2969600x1, a⟩, ⟨S2969600x1, b⟩] concatenates_S2969600x1_S2969600x1_S2969600x2_d1) : (⟨S2969600x1, .i32⟩ : BufTy).Contents (Elt F) → (⟨S2969600x1, .i32⟩ : BufTy).Contents (Elt F) → (⟨S2969600x2, .i32⟩ : BufTy).Contents (Elt F)),
  binary main_arg5 main_v96 main_v97 ((fun x i => Host.gather gather_S29x81_S2969600x2_S2969600_n_01_n_n_01_1_11 x i) : (⟨S29x81, .f32⟩ : BufTy).Contents (Elt F) → (⟨S2969600x2, .i32⟩ : BufTy).Contents (Elt F) → (⟨S2969600, .f32⟩ : BufTy).Contents (Elt F)),
  reshape main_v97 main_v98 (rfl : (.f32 : EltTy) = .f32) shapeCasts_S2969600_S1024x100x29,
  binary main_v76 main_v98 main_v99 (mulf : (⟨S1024x100x29, .f32⟩ : BufTy).Contents (Elt F) → (⟨S1024x100x29, .f32⟩ : BufTy).Contents (Elt F) → (⟨S1024x100x29, .f32⟩ : BufTy).Contents (Elt F))]

/-- The buffers that those operations write. -/
def writesH : List (Ref sig .tc) := [main_v74, main_v75, main_v76, main_v77, main_v78, main_v79, main_v80, main_v81, main_v82, main_v83, main_c_13, main_v84, main_v85, main_c_14, main_v86, main_v87, main_v88, main_c_15, main_v89, main_v90, main_c_16, main_v91, main_v92, main_v93, main_v94, main_v95, main_v96, main_v97, main_v98, main_v99]

/-- A buffer that those operations do not write keeps its contents. -/
theorem keepH (V : Valuation τ sig (Elt F)) (r : Ref sig .tc) (hr : r ∉ writesH) :
    after (opsH (F := F)) V (Proc.devRef .tc r) = V (Proc.devRef .tc r) :=
  after_of_writes_sub opsH V (W := writesH) (forall_writes_sub_of_map rfl) hr

/-- All the operations of the reference. -/
def opsAll : List (HloOp τ sig (Elt F)) := opsA ++ (opsB ++ (opsC ++ (opsD ++ (opsE ++ (opsF ++ (opsG ++ opsH))))))

/-- The printed program is that line of operations. -/
theorem main_isSeq (d : Dev nD) : IsSeq (main (F := F) d) opsAll := by
  simp only [opsAll, opsA, opsB, opsC, opsD, opsE, opsF, opsG, opsH, List.cons_append, List.nil_append]
  hlo_seq

/-- What a buffer of device `c` holds when the reference has run from the memory `m`. -/
abbrev final (m : (ℓ : Loc nD τ sig) → Buf (Elt F) ℓ) (c : Dev nD) : Valuation τ sig (Elt F) :=
  after opsH (after opsG (after opsF (after opsE (after opsD (after opsC (after opsB (after opsA (launchContents m c))))))))

/-- Every run of the reference ends with each buffer holding its final contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = final m c (Proc.devRef .tc b) := by
  refine θ_run_mono (run_hlo _ _ main_isSeq (by decide) (by decide) ?_ ?_ m ρ) ?_
  · simp [opsAll, opsA, opsB, opsC, opsD, opsE, opsF, opsG, opsH]
  · intro _ h
    simp only [opsAll, opsA, opsB, opsC, opsD, opsE, opsF, opsG, opsH, List.cons_append, List.nil_append] at h
    (repeat (cases h with | head => rfl | tail _ h => ?_)); exact nomatch h
  · intro r h c b
    rw [h c b, opsAll, after_append, after_append, after_append, after_append, after_append, after_append, after_append]

end Cert.RefRun

end
-- ==== Proof.Softmax.lean ====
/- The softmax of a row of extended reals none of which is +∞: it orders the entries as the row itself does,
   so that the greatest probability among some of the classes is the probability of their greatest entry. -/
module

public import Idealize.ShloMosaic.PureOps.Ideal.Laws

@[expose] public section

noncomputable section

namespace Cert.Row

open Idealize.ShloMosaic

variable {n N : ℕ}

/-- The greatest entry of a row (-∞ of an empty one). -/
def top (l : Fin n → EReal) : EReal := Finset.univ.fold max ⊥ l

/-- The softmax of a row, at one class. -/
def prob (l : Fin n → EReal) (k : Fin n) : EReal :=
  Ideal.div (Ideal.exp (l k - top l)) (∑ i, Ideal.exp (l i - top l))

/-- No entry is above the greatest. -/
theorem le_top (l : Fin n → EReal) (k : Fin n) : l k ≤ top l :=
  (Finset.le_fold_max _).2 (Or.inr ⟨k, Finset.mem_univ _, le_rfl⟩)

/-- The greatest is below whatever all entries are below. -/
theorem top_le (l : Fin n → EReal) (c : EReal) (h : ∀ k, l k ≤ c) : top l ≤ c :=
  (Finset.fold_max_le _).2 ⟨bot_le, fun k _ => h k⟩

/-- A row that is not empty attains its greatest entry. -/
theorem exists_eq_top (hn : 0 < n) (l : Fin n → EReal) : ∃ k, l k = top l := by
  haveI : Nonempty (Fin n) := ⟨⟨0, hn⟩⟩
  obtain ⟨k, hk⟩ := Finite.exists_max l
  exact ⟨k, le_antisymm (le_top l k) (top_le l _ hk)⟩

/-- The exponential of an entry less a real bound, as a real. -/
def weight (r : ℝ) : EReal → ℝ
  | ⊥ => 0
  | ⊤ => 0
  | (a : ℝ) => Real.exp (a - r)

/-- A weight is not negative. -/
theorem weight_nonneg (r : ℝ) (x : EReal) : 0 ≤ weight r x := by
  induction x using EReal.rec with
  | bot => exact le_rfl
  | top => exact le_rfl
  | coe a => exact (Real.exp_pos _).le

/-- The exponential of an entry below +∞ less a real is that weight. -/
theorem exp_sub (r : ℝ) (x : EReal) (hx : x < ⊤) : Ideal.exp (x - (r : EReal)) = (weight r x : ℝ) := by
  induction x using EReal.rec with
  | bot => rw [EReal.bot_sub]; rfl
  | top => exact absurd hx (lt_irrefl _)
  | coe a => rw [← EReal.coe_sub]; rfl

/-- The weights order the entries below +∞ as they stand. -/
theorem weight_le_iff (r : ℝ) (x y : EReal) (hx : x < ⊤) (hy : y < ⊤) : weight r x ≤ weight r y ↔ x ≤ y := by
  induction x using EReal.rec with
  | bot => exact ⟨fun _ => bot_le, fun _ => weight_nonneg r y⟩
  | top => exact absurd hx (lt_irrefl _)
  | coe a =>
    induction y using EReal.rec with
    | bot =>
      refine ⟨fun h => absurd h (not_le.2 (Real.exp_pos _)), fun h => ?_⟩
      exact absurd (le_bot_iff.1 h) (EReal.coe_ne_bot a)
    | top => exact absurd hy (lt_irrefl _)
    | coe b =>
      rw [EReal.coe_le_coe_iff]
      show Real.exp (a - r) ≤ Real.exp (b - r) ↔ _
      rw [Real.exp_le_exp]
      constructor <;> intro h <;> linarith

/-- A sum of reals, read in the extended reals. -/
theorem coe_sum (w : Fin n → ℝ) : (∑ i, (w i : EReal)) = ((∑ i, w i : ℝ) : EReal) := by
  induction (Finset.univ : Finset (Fin n)) using Finset.induction_on with
  | empty => simp
  | insert a s ha ih => rw [Finset.sum_insert ha, Finset.sum_insert ha, ih, EReal.coe_add]

/-- The probability with respect to a real greatest entry: a quotient of reals with a positive divisor. -/
theorem prob_eq (l : Fin n → EReal) (hl : ∀ k, l k < ⊤) (r : ℝ) (hr : top l = r) (k : Fin n) :
    ∃ S : ℝ, 0 < S ∧ ∀ j, prob l j = ((weight r (l j) / S : ℝ) : EReal) := by
  have hpos : 0 < ∑ i, weight r (l i) := by
    obtain ⟨j, hj⟩ := exists_eq_top (lt_of_le_of_lt (Nat.zero_le _) k.2) l
    refine Finset.sum_pos' (fun i _ => weight_nonneg r _) ⟨j, Finset.mem_univ _, ?_⟩
    rw [hj, hr]
    exact Real.exp_pos _
  refine ⟨_, hpos, fun j => ?_⟩
  unfold prob
  rw [hr]
  simp only [exp_sub r _ (hl _)]
  rw [coe_sum, Ideal.div, if_neg (by exact_mod_cast hpos.ne'), ← EReal.coe_inv, ← EReal.coe_mul, div_eq_mul_inv]

/-- The softmax orders the classes as the row does. -/
theorem prob_le_iff (l : Fin n → EReal) (hl : ∀ k, l k < ⊤) (j k : Fin n) : prob l j ≤ prob l k ↔ l j ≤ l k := by
  obtain ⟨i, hi⟩ := exists_eq_top (lt_of_le_of_lt (Nat.zero_le _) k.2) l
  by_cases hb : top l = ⊥
  · have h : ∀ x, l x = ⊥ := fun x => le_bot_iff.1 (hb ▸ le_top l x)
    simp only [prob, h, le_refl]
  · have ht : top l ≠ ⊤ := hi ▸ (hl i).ne
    obtain ⟨S, hS, h⟩ := prob_eq l hl (top l).toReal (EReal.coe_toReal ht hb).symm k
    rw [h, h, EReal.coe_le_coe_iff, div_le_div_iff_of_pos_right hS, weight_le_iff _ _ _ (hl j) (hl k)]

/-- The greatest probability among some classes is the quotient taken at their greatest entry. -/
theorem top_prob (l : Fin N → EReal) (hl : ∀ k, l k < ⊤) (c : Fin n → Fin N) (hn : 0 < n) :
    top (fun k => prob l (c k))
      = Ideal.div (Ideal.exp (top (fun k => l (c k)) - top l)) (∑ i, Ideal.exp (l i - top l)) := by
  obtain ⟨k, hk⟩ := exists_eq_top hn (fun k => l (c k))
  rw [← hk]
  refine le_antisymm (top_le _ _ fun j => ?_) (le_top (fun k => prob l (c k)) k)
  refine (prob_le_iff l hl (c j) (c k)).2 ?_
  rw [show l (c k) = _ from hk]
  exact le_top (fun k => l (c k)) j

end Cert.Row
end
-- ==== Proof.FirstMax.lean ====
/- The first class at which a row takes its greatest entry, found in two ways: as the least of the class numbers
   at which the greatest entry stands, and as the class number left by a running comparison of pairs. -/
module

public import proofs.«01_k».proof.Proof.Softmax
public import Idealize.ShloMosaic.PureOps.Vector

@[expose] public section

noncomputable section

namespace Cert.Row

open Idealize.ShloMosaic

variable {n : ℕ}

/-- Class `k` holds the greatest entry and is the first to do so. -/
structure IsFirst (l : Fin n → EReal) (k : Fin n) : Prop where
  greatest : ∀ j, l j ≤ l k
  first : ∀ j, l j = l k → k ≤ j

/-- A row that is not empty has such a class. -/
theorem exists_isFirst (hn : 0 < n) (l : Fin n → EReal) : ∃ k, IsFirst l k := by
  haveI : Nonempty (Fin n) := ⟨⟨0, hn⟩⟩
  obtain ⟨m, hm⟩ := Finite.exists_max l
  obtain ⟨k, hk, hmin⟩ := Finset.exists_min_image (Finset.univ.filter fun j => l j = l m) id ⟨m, by simp⟩
  have hkm : l k = l m := (Finset.mem_filter.1 hk).2
  exact ⟨k, fun j => hkm ▸ hm j, fun j hj => hmin j (by simp [hj, hkm])⟩

/-- Rows that order their classes alike have the same such class. -/
theorem IsFirst.congr {l p : Fin n → EReal} (h : ∀ j k, p j ≤ p k ↔ l j ≤ l k) {k : Fin n} (hk : IsFirst l k) :
    IsFirst p k :=
  ⟨fun j => (h j k).2 (hk.greatest j),
   fun j e => hk.first j (le_antisymm ((h j k).1 e.le) ((h k j).1 e.ge))⟩

/-- A class number below 2 ^ 31 as a 32-bit word, read back. -/
theorem toInt_ofNat (k : ℕ) (h : k < 2147483648) : (BitVec.ofNat 32 k).toInt = k := by
  have hn : (BitVec.ofNat 32 k).toNat = k := by rw [BitVec.toNat_ofNat]; exact Nat.mod_eq_of_lt (by omega)
  rw [BitVec.toInt_eq_toNat_of_lt (by rw [hn]; omega), hn]

/-- The lesser of two words has the lesser value. -/
theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.1 h)]

/-- The least of a family of words: one of them, none being less. -/
theorem fold_minsi [Std.Commutative (IntOp.minsi (w := 32))] [Std.Associative (IntOp.minsi (w := 32))] (a v : BitVec 32)
    (f : Fin n → BitVec 32) (k : Fin n) (hk : f k = v) (ha : v.toInt ≤ a.toInt) (h : ∀ j, v.toInt ≤ (f j).toInt) :
    Finset.univ.fold IntOp.minsi a f = v := by
  apply BitVec.eq_of_toInt_eq
  rw [← Finset.fold_hom (op' := min) toInt_minsi]
  refine le_antisymm ((Finset.fold_min_le _).2 (Or.inr ⟨k, Finset.mem_univ _, by rw [hk]⟩)) ?_
  exact (Finset.le_fold_min _).2 ⟨ha, fun j _ => h j⟩

/-- The least class number at which the greatest entry stands is the first greatest class. -/
theorem least_label [Std.Commutative (IntOp.minsi (w := 32))] [Std.Associative (IntOp.minsi (w := 32))] (l : Fin 80 → EReal)
    [∀ j, Decidable (top l ≤ l j)] (k : Fin 80) (hk : IsFirst l k) :
    (Finset.univ.fold IntOp.minsi 2147483647#32 fun j : Fin 80 =>
      if top l ≤ l j then BitVec.ofNat 32 j.val else 80#32) = BitVec.ofNat 32 k.val := by
  have htop : top l = l k := le_antisymm (top_le l _ hk.greatest) (le_top l k)
  have hlt : ∀ j : Fin 80, j.val < 2147483648 := fun j => by omega
  refine fold_minsi _ _ _ k ?_ ?_ fun j => ?_
  · rw [if_pos htop.le]
  · rw [toInt_ofNat _ (hlt k)]; simp; omega
  · rw [toInt_ofNat _ (hlt k)]
    by_cases h : top l ≤ l j
    · have hj : l j = l k := le_antisymm (hk.greatest j) (htop ▸ h)
      have := hk.first j hj
      rw [if_pos h, toInt_ofNat _ (hlt j)]
      exact_mod_cast this
    · rw [if_neg h]
      simp

/-- `b` comes no earlier than `a`: its value is less, or equal and its number no less. -/
def Ahead (a b : EReal × BitVec 32) : Prop := b.1 < a.1 ∨ (b.1 = a.1 ∧ a.2.toInt ≤ b.2.toInt)

/-- Nothing comes before itself. -/
theorem Ahead.refl (a : EReal × BitVec 32) : Ahead a a := Or.inr ⟨rfl, le_rfl⟩

/-- The order is transitive. -/
theorem Ahead.trans {a b c : EReal × BitVec 32} (h : Ahead a b) (h' : Ahead b c) : Ahead a c := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- A running comparison that keeps, of two pairs, one that is ahead of both ends with a pair of the list ahead
    of them all. -/
theorem foldl_ahead (f : EReal × BitVec 32 → EReal × BitVec 32 → EReal × BitVec 32)
    (hf : ∀ a b, (f a b = a ∨ f a b = b) ∧ Ahead (f a b) a ∧ Ahead (f a b) b) (L : List (EReal × BitVec 32))
    (a : EReal × BitVec 32) :
    (L.foldl f a = a ∨ L.foldl f a ∈ L) ∧ Ahead (L.foldl f a) a ∧ ∀ e ∈ L, Ahead (L.foldl f a) e := by
  induction L generalizing a with
  | nil => exact ⟨Or.inl rfl, Ahead.refl a, fun e he => by simp at he⟩
  | cons b L ih =>
    obtain ⟨hm, hh, ht⟩ := ih (f a b)
    obtain ⟨hc, ha, hb⟩ := hf a b
    rw [List.foldl_cons]
    refine ⟨?_, hh.trans ha, fun e he => ?_⟩
    · rcases hm with hm | hm
      · rcases hc with hc | hc
        · exact Or.inl (hm.trans hc)
        · exact Or.inr (by rw [hm, hc]; exact List.mem_cons_self)
      · exact Or.inr (List.mem_cons_of_mem _ hm)
    · rcases List.mem_cons.1 he with rfl | he
      · exact hh.trans hb
      · exact ht e he

/-- Such a comparison of the pairs of a row's entries and class numbers, begun at (-∞, 0), ends at the number of
    the first greatest class. -/
theorem running_label (f : EReal × BitVec 32 → EReal × BitVec 32 → EReal × BitVec 32)
    (hf : ∀ a b, (f a b = a ∨ f a b = b) ∧ Ahead (f a b) a ∧ Ahead (f a b) b) (L : List (EReal × BitVec 32))
    (p : Fin 80 → EReal) (hL : ∀ e, e ∈ L ↔ ∃ k : Fin 80, e = (p k, BitVec.ofNat 32 k.val)) (k : Fin 80)
    (hk : IsFirst p k) : (L.foldl f (⊥, 0#32)).2 = BitVec.ofNat 32 k.val := by
  obtain ⟨hm, -, ht⟩ := foldl_ahead f hf L (⊥, 0#32)
  have hlt : ∀ j : Fin 80, j.val < 2147483648 := fun j => by omega
  have hk' := ht _ ((hL _).2 ⟨k, rfl⟩)
  have key : ∀ j : Fin 80, L.foldl f (⊥, 0#32) = (p j, BitVec.ofNat 32 j.val) →
      (L.foldl f (⊥, 0#32)).2 = BitVec.ofNat 32 k.val := by
    intro j hj
    rw [hj] at hk' ⊢
    rcases hk' with h | ⟨h, hi⟩
    · exact absurd (hk.greatest j) (not_le.2 h)
    · simp only [toInt_ofNat _ (hlt _)] at hi
      have := hk.first j h.symm
      rw [show j = k from le_antisymm (by exact_mod_cast hi) this]
  rcases hm with hm | hm
  · rw [hm] at hk'
    rcases hk' with h | ⟨h, -⟩
    · exact absurd h not_lt_bot
    · have h0 : p 0 = p k := by rw [show p k = ⊥ from h]; exact le_bot_iff.1 ((hk.greatest 0).trans (le_of_eq h))
      exact key 0 (by rw [hm, h0, show p k = ⊥ from h]; rfl)
  · obtain ⟨j, hj⟩ := (hL _).1 hm
    exact key j hj

/-- The second of each pair of an array of pairs. -/
def seconds {ι α β : Type} (g : ι → α × β) : ι → β := fun j => (g j).2

/-- An arg-max over an axis of eighty classes, begun at (-∞, 0), gives the number of the first greatest class. -/
theorem argReduce_label {s t u : Shape} {axes : List (Fin s.rank)}
    (f : Ideal .f32 × BitVec 32 → Ideal .f32 × BitVec 32 → Ideal .f32 × BitVec 32)
    (hf : ∀ a b, (f a b = a ∨ f a b = b) ∧ Ahead (f a b) a ∧ Ahead (f a b) b) (x : FVec Ideal s .f32) (y : IVec s 32)
    (ix : FVec Ideal u .f32) (iy : IVec u 32) (h : s.ReducesTo axes t) (hu : 0 < u.numel) (j : t.Idx)
    (hx : ix (Shape.Idx.first hu) = (⊥ : EReal)) (hy : iy (Shape.Idx.first hu) = 0#32) (p : Fin 80 → EReal)
    (hL : ∀ e, e ∈ Host.argReduceFiber x y h j ↔ ∃ k : Fin 80, e = (p k, BitVec.ofNat 32 k.val)) (k : Fin 80)
    (hk : IsFirst p k) : seconds (Host.argReduce f x y ix iy h hu) j = BitVec.ofNat 32 k.val := by
  unfold seconds
  rw [Ideal.argReduce_eq_reduce2, Host.reduce2_eq_foldl_fiber, hx, hy]
  exact running_label f hf _ p hL k hk

end Cert.Row
end
-- ==== Proof.RefTerms.lean ====
/- What the reference's three results are as array expressions in the arguments: one definition per stretch of
   its operations, and the equation of each stretch. -/
module

public import proofs.«01_k».proof.Proof.RefRun
public import proofs.«01_k».proof.Proof.FirstMax

@[expose] public section

set_option maxRecDepth 16384
set_option maxHeartbeats 4000000

noncomputable section

namespace Cert.RefRun

open Cert.ReferenceIdeal Cert.ReferenceIdeal.Facts Cert.ReferenceIdeal.Facts₀ Idealize.ShloMosaic Idealize.ShloMosaic.TcCoe Idealize.SL.Sem Idealize.ShloMosaic.StableHlo

variable {F : FTy → Type} [FloatOps F]

/-- The greatest logit of each row. -/
def rowMax (x : FVec F S1024x100x81 .f32) : FVec F S1024x100 .f32 :=
  maximumf (broadcastInDim S1024x100 ![] bcast_S_S1024x100 (constant S_ .f32 0xFF800000#32))
    (Host.reduce FloatOps.maximumf x (constant S_ .f32 0xFF800000#32) reducesTo_S1024x100x81_S1024x100_d2 h_S_)

/-- A value per row, spread over the row's 81 classes. -/
def spread (y : FVec F S1024x100 .f32) : FVec F S1024x100x81 .f32 :=
  broadcastInDim S1024x100x81 ![0, 1, 2] bcast_S1024x100x1_S1024x100x81_0_1_2
    (broadcastInDim S1024x100x1 ![0, 1] bcast_S1024x100_S1024x100x1_0_1 y)

/-- The exponentials of the logits less the row's greatest. -/
def weights (x : FVec F S1024x100x81 .f32) : FVec F S1024x100x81 .f32 := Host.exp (subf x (spread (rowMax x)))

/-- The softmax of the logits. -/
def probs (x : FVec F S1024x100x81 .f32) : FVec F S1024x100x81 .f32 :=
  Host.divf (weights x) (spread (Host.reduceAdd (weights x) (constant S_ .f32 0x00000000#32)
    reducesTo_S1024x100x81_S1024x100_d2 h_S_))

/-- The probabilities of the first eighty classes. -/
def objProbs (p : FVec F S1024x100x81 .f32) : FVec F S1024x100x80 .f32 :=
  extractStridedSlice S1024x100x80 ![0, 0, 0] p slices_S1024x100x81_S1024x100x80_0_0_0

/-- The greatest of them. -/
def bestScore (p : FVec F S1024x100x81 .f32) : FVec F S1024x100 .f32 :=
  Host.reduce FloatOps.maximumf (objProbs p) (constant S_ .f32 0xFF800000#32) reducesTo_S1024x100x80_S1024x100_d2 h_S_

/-- The class at which it stands. -/
def bestLabel (p : FVec F S1024x100x81 .f32) : IVec S1024x100 32 := Row.seconds
  (Host.argReduce reducer_argmax_f32_i32 (objProbs p) (iotaInDim S1024x100x80 32 2) (constant S_ .f32 0xFF800000#32)
    (constantI S_ 32 0#32) reducesTo_S1024x100x80_S1024x100_d2 h_S_)

/-- The sigmoid of the verb logits. -/
def sigm (x : FVec F S1024x100x29 .f32) : FVec F S1024x100x29 .f32 :=
  Host.divf (broadcastInDim S1024x100x29 ![] bcast_S_S1024x100x29 (constant S_ .f32 0x3F800000#32))
    (addf (broadcastInDim S1024x100x29 ![] bcast_S_S1024x100x29 (constant S_ .f32 0x3F800000#32)) (Host.exp (Host.negf x)))

/-- The image heights as reals. -/
def heights (t : IVec S1024x2 32) : FVec F S1024 .f32 :=
  sitofp .f32 (shapeCast S1024 (extractStridedSlice S1024x1 ![0, 0] t slices_S1024x2_S1024x1_0_0) shapeCasts_S1024x1_S1024)

/-- The image widths as reals. -/
def widths (t : IVec S1024x2 32) : FVec F S1024 .f32 :=
  sitofp .f32 (shapeCast S1024 (extractStridedSlice S1024x1 ![0, 1] t slices_S1024x2_S1024x1_0_1) shapeCasts_S1024x1_S1024)

/-- A vector as a column. -/
def column (y : FVec F S1024 .f32) : FVec F S1024x1 .f32 := broadcastInDim S1024x1 ![0] bcast_S1024_S1024x1_0 y

/-- The scale of the four corner coordinates: width, height, width, height. -/
def scale (t : IVec S1024x2 32) : FVec F S1024x4 .f32 :=
  concatenate S1024x4 1 [⟨S1024x1, column (widths t)⟩, ⟨S1024x1, column (heights t)⟩, ⟨S1024x1, column (widths t)⟩,
    ⟨S1024x1, column (heights t)⟩] concatenates_S1024x1_S1024x1_S1024x1_S1024x1_S1024x4_d1

/-- Half of a coordinate. -/
def half (y : FVec F S1024x100x1 .f32) : FVec F S1024x100x1 .f32 :=
  mulf (broadcastInDim S1024x100x1 ![] bcast_S_S1024x100x1 (constant S_ .f32 0x3F000000#32)) y

/-- Boxes given by centre and size, as scaled corners. -/
def corners (b : FVec F S1024x100x4 .f32) (s : FVec F S1024x4 .f32) : FVec F S1024x100x4 .f32 :=
  mulf (concatenate S1024x100x4 2
      [⟨S1024x100x1, subf (extractStridedSlice S1024x100x1 ![0, 0, 0] b slices_S1024x100x4_S1024x100x1_0_0_0)
          (half (extractStridedSlice S1024x100x1 ![0, 0, 2] b slices_S1024x100x4_S1024x100x1_0_0_2))⟩,
       ⟨S1024x100x1, subf (extractStridedSlice S1024x100x1 ![0, 0, 1] b slices_S1024x100x4_S1024x100x1_0_0_1)
          (half (extractStridedSlice S1024x100x1 ![0, 0, 3] b slices_S1024x100x4_S1024x100x1_0_0_3))⟩,
       ⟨S1024x100x1, addf (extractStridedSlice S1024x100x1 ![0, 0, 0] b slices_S1024x100x4_S1024x100x1_0_0_0)
          (half (extractStridedSlice S1024x100x1 ![0, 0, 2] b slices_S1024x100x4_S1024x100x1_0_0_2))⟩,
       ⟨S1024x100x1, addf (extractStridedSlice S1024x100x1 ![0, 0, 1] b slices_S1024x100x4_S1024x100x1_0_0_1)
          (half (extractStridedSlice S1024x100x1 ![0, 0, 3] b slices_S1024x100x4_S1024x100x1_0_0_3))⟩]
      concatenates_S1024x100x1_S1024x100x1_S1024x100x1_S1024x100x1_S1024x100x4_d2)
    (broadcastInDim S1024x100x4 ![0, 1, 2] bcast_S1024x1x4_S1024x100x4_0_1_2
      (broadcastInDim S1024x1x4 ![0, 2] bcast_S1024x4_S1024x1x4_0_2 s))

/-- The label result: a one for each subject, then the objects' labels. -/
def labelsOut (l : IVec S1024x100 32) : IVec S1024x200 32 :=
  concatenate S1024x200 1 [⟨S1024x100, broadcastInDim S1024x100 ![] bcast_S_S1024x100 (constantI S_ 32 1#32)⟩, ⟨S1024x100, l⟩]
    concatenates_S1024x100_S1024x100_S1024x200_d1

/-- The box result: the subjects' boxes, then the objects'. -/
def boxesOut (a b : FVec F S1024x100x4 .f32) : FVec F S1024x200x4 .f32 :=
  concatenate S1024x200x4 1 [⟨S1024x100x4, a⟩, ⟨S1024x100x4, b⟩] concatenates_S1024x100x4_S1024x100x4_S1024x200x4_d1

/-- The number of each verb, at every entry of the flattened scores. -/
def verbIx : IVec S2969600 32 :=
  shapeCast S2969600 (broadcastInDim S1024x100x29 ![0, 1, 2] bcast_S1x1x29_S1024x100x29_0_1_2
    (broadcastInDim S1x1x29 ![2] bcast_S29_S1x1x29_2 (iotaInDim S29 32 0))) shapeCasts_S1024x100x29_S2969600

/-- The object's label, at every entry of the flattened scores. -/
def labelIx (l : IVec S1024x100 32) : IVec S2969600 32 :=
  shapeCast S2969600 (broadcastInDim S1024x100x29 ![0, 1, 2] bcast_S1024x100x1_S1024x100x29_0_1_2
    (broadcastInDim S1024x100x1 ![0, 1] bcast_S1024x100_S1024x100x1_0_1 l)) shapeCasts_S1024x100x29_S2969600

/-- An index counted from the end of an axis of extent `n` where it is negative. -/
def wrapped (n : BitVec 32) (i : IVec S2969600 32) : IVec S2969600 32 :=
  select (cmpi .slt i (broadcastInDim S2969600 ![] bcast_S_S2969600 (constantI S_ 32 0#32)))
    (addi i (broadcastInDim S2969600 ![] bcast_S_S2969600 (constantI S_ 32 n))) i

/-- The pairs of verb and label that the correlation matrix is read at. -/
def pairIx (l : IVec S1024x100 32) : IVec S2969600x2 32 :=
  concatenate S2969600x2 1
    [⟨S2969600x1, broadcastInDim S2969600x1 ![0] bcast_S2969600_S2969600x1_0 (wrapped 29#32 verbIx)⟩,
     ⟨S2969600x1, broadcastInDim S2969600x1 ![0] bcast_S2969600_S2969600x1_0 (wrapped 81#32 (labelIx l))⟩]
    concatenates_S2969600x1_S2969600x1_S2969600x2_d1

/-- The mask of each pair: the correlation matrix's entry for its verb and label. -/
def maskOut (l : IVec S1024x100 32) (cm : FVec F S29x81 .f32) : FVec F S1024x100x29 .f32 :=
  shapeCast S1024x100x29 (Host.gather gather_S29x81_S2969600x2_S2969600_n_01_n_n_01_1_11 cm (pairIx l))
    shapeCasts_S2969600_S1024x100x29

/-- The score result. -/
def scoresOut (s : FVec F S1024x100 .f32) (g : FVec F S1024x100x29 .f32) (l : IVec S1024x100 32) (cm : FVec F S29x81 .f32) :
    FVec F S1024x100x29 .f32 :=
  mulf (mulf g (broadcastInDim S1024x100x29 ![0, 1, 2] bcast_S1024x100x1_S1024x100x29_0_1_2
      (broadcastInDim S1024x100x1 ![0, 1] bcast_S1024x100_S1024x100x1_0_1 s)))
    (maskOut l cm)

variable (V : Valuation τ sig (Elt F))

/-- The first stretch leaves the softmax. -/
theorem valA : after opsA V (Proc.devRef .tc main_v10) = probs (V (Proc.devRef .tc main_arg0)) := by
  unfold opsA; after_results; rfl

/-- The second leaves the best scores, -/
theorem valB_score : after opsB V (Proc.devRef .tc main_v12) = bestScore (V (Proc.devRef .tc main_v10)) := by
  unfold opsB; after_results; rfl

/-- and the best labels. -/
theorem valB_label : after opsB V (Proc.devRef .tc main_v13) = bestLabel (V (Proc.devRef .tc main_v10)) := by
  unfold opsB; after_results; rfl

/-- The third leaves the sigmoids. -/
theorem valC : after opsC V (Proc.devRef .tc main_v19) = sigm (V (Proc.devRef .tc main_arg1)) := by
  unfold opsC; after_results; rfl

/-- The fourth leaves the scale. -/
theorem valD : after opsD V (Proc.devRef .tc main_v30) = scale (V (Proc.devRef .tc main_arg4)) := by
  unfold opsD; after_results; rfl

/-- The fifth leaves the subjects' corners. -/
theorem valE : after opsE V (Proc.devRef .tc main_v50) =
    corners (V (Proc.devRef .tc main_arg2)) (V (Proc.devRef .tc main_v30)) := by
  unfold opsE; after_results; rfl

/-- The sixth leaves the objects' corners. -/
theorem valF : after opsF V (Proc.devRef .tc main_v70) =
    corners (V (Proc.devRef .tc main_arg3)) (V (Proc.devRef .tc main_v30)) := by
  unfold opsF; after_results; rfl

/-- The seventh leaves the label result, -/
theorem valG_labels : after opsG V (Proc.devRef .tc main_v72) = labelsOut (V (Proc.devRef .tc main_v13)) := by
  unfold opsG; after_results; rfl

/-- and the box result. -/
theorem valG_boxes : after opsG V (Proc.devRef .tc main_v73) =
    boxesOut (V (Proc.devRef .tc main_v50)) (V (Proc.devRef .tc main_v70)) := by
  unfold opsG; after_results; rfl

/-- The last leaves the score result. -/
theorem valH : after opsH V (Proc.devRef .tc main_v99) =
    scoresOut (V (Proc.devRef .tc main_v12)) (V (Proc.devRef .tc main_v19)) (V (Proc.devRef .tc main_v13))
      (V (Proc.devRef .tc main_arg5)) := by
  unfold opsH; after_results; rfl

end Cert.RefRun

end
-- ==== Proof.RefResults.lean ====
/- The reference's run in terms of its arguments: its three results, and its arguments unchanged. -/
module

public import proofs.«01_k».proof.Proof.RefTerms
public import Idealize.ShloMosaic.Lib.Quiescent

@[expose] public section

set_option maxRecDepth 16384

noncomputable section

namespace Cert.RefRun

open Cert.ReferenceIdeal Cert.ReferenceIdeal.Facts Cert.ReferenceIdeal.Facts₀ Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- A buffer that no operation writes ends as it was launched. -/
theorem final_kept (r : Ref sig .tc)
    (h : r ∉ writesA ++ writesB ++ writesC ++ writesD ++ writesE ++ writesF ++ writesG ++ writesH) :
    final m c (Proc.devRef .tc r) = m ((c.tc : Thread nD τ).loc r) := by
  simp only [List.mem_append, not_or] at h
  obtain ⟨⟨⟨⟨⟨⟨⟨hA, hB⟩, hC⟩, hD⟩, hE⟩, hF⟩, hG⟩, hH⟩ := h
  rw [final, keepH _ _ hH, keepG _ _ hG, keepF _ _ hF, keepE _ _ hE, keepD _ _ hD, keepC _ _ hC, keepB _ _ hB,
    keepA _ _ hA, launchContents_devRef]

/-- The reference's labels. -/
theorem final_labels : final m c (Proc.devRef .tc main_v72) =
    labelsOut (bestLabel (probs (m ((c.tc : Thread nD τ).loc main_arg0)))) := by
  rw [final, keepH _ _ (by decide), valG_labels, keepF _ _ (by decide), keepE _ _ (by decide), keepD _ _ (by decide),
    keepC _ _ (by decide), valB_label, valA, launchContents_devRef]

/-- The reference's boxes. -/
theorem final_boxes : final m c (Proc.devRef .tc main_v73) =
    boxesOut
      (corners (m ((c.tc : Thread nD τ).loc main_arg2)) (scale (m ((c.tc : Thread nD τ).loc main_arg4))))
      (corners (m ((c.tc : Thread nD τ).loc main_arg3)) (scale (m ((c.tc : Thread nD τ).loc main_arg4)))) := by
  rw [final, keepH _ _ (by decide), valG_boxes, valF, keepF _ main_v50 (by decide), valE,
    keepE _ main_v30 (by decide), keepE _ main_arg3 (by decide), valD, keepD _ main_arg2 (by decide),
    keepD _ main_arg3 (by decide), keepC _ main_arg2 (by decide), keepC _ main_arg3 (by decide),
    keepC _ main_arg4 (by decide), keepB _ main_arg2 (by decide), keepB _ main_arg3 (by decide),
    keepB _ main_arg4 (by decide), keepA _ main_arg2 (by decide), keepA _ main_arg3 (by decide),
    keepA _ main_arg4 (by decide), launchContents_devRef, launchContents_devRef, launchContents_devRef]

/-- The reference's scores. -/
theorem final_scores : final m c (Proc.devRef .tc main_v99) =
    scoresOut (bestScore (probs (m ((c.tc : Thread nD τ).loc main_arg0)))) (sigm (m ((c.tc : Thread nD τ).loc main_arg1)))
      (bestLabel (probs (m ((c.tc : Thread nD τ).loc main_arg0)))) (m ((c.tc : Thread nD τ).loc main_arg5)) := by
  rw [final, valH, keepG _ main_v12 (by decide), keepG _ main_v19 (by decide), keepG _ main_v13 (by decide),
    keepG _ main_arg5 (by decide), keepF _ main_v12 (by decide), keepF _ main_v19 (by decide), keepF _ main_v13 (by decide),
    keepF _ main_arg5 (by decide), keepE _ main_v12 (by decide), keepE _ main_v19 (by decide), keepE _ main_v13 (by decide),
    keepE _ main_arg5 (by decide), keepD _ main_v12 (by decide), keepD _ main_v19 (by decide), keepD _ main_v13 (by decide),
    keepD _ main_arg5 (by decide), keepC _ main_v12 (by decide), valC, keepC _ main_v13 (by decide),
    keepC _ main_arg5 (by decide), valB_score, valB_label, keepB _ main_arg1 (by decide), keepB _ main_arg5 (by decide),
    valA, keepA _ main_arg1 (by decide), keepA _ main_arg5 (by decide), launchContents_devRef, launchContents_devRef,
    launchContents_devRef]

/-- The reference leaves its arguments unchanged and every counter at zero. -/
theorem frame : Cert.quiescent_ReferenceIdeal := by
  intro m g _
  refine θ_run_mono (run m g) fun r h => ⟨fun c => ⟨?_, ?_, ?_, ?_, ?_, ?_⟩, sem_eq_zero_of_no_sems (sig := sig) (by decide) _⟩
  all_goals exact (h c _).trans (final_kept m c _ (by decide))

end Cert.RefRun

end
-- ==== Proof.Entries.lean ====
/- What one entry of the results is in plain terms: a sigmoid, and a corner coordinate of a box given by its
   centre and size. -/
module

public import Idealize.ShloMosaic.PureOps.Ideal.Laws

@[expose] public section

noncomputable section

namespace Cert.Row

open Idealize.ShloMosaic

/-- The sigmoid. -/
def sigmoid (x : EReal) : EReal := Ideal.div 1 (1 + Ideal.exp (-x))

/-- The word of one half, as an extended real. -/
abbrev oneHalf : EReal := Ideal.ofBits .f32 0x3F000000#32

/-- A corner coordinate of the box with centre `(c 0, c 1)` and size `(c 2, c 3)` in an image of width `w` and height `h`. -/
def corner (c : Fin 4 → EReal) (w h : EReal) : Fin 4 → EReal
  | 0 => (c 0 - oneHalf * c 2) * w
  | 1 => (c 1 - oneHalf * c 3) * h
  | 2 => (c 0 + oneHalf * c 2) * w
  | 3 => (c 1 + oneHalf * c 3) * h

end Cert.Row
end
-- ==== Proof.BlockClass.lean ====
/- What one block computes from its logits, its verb logits and the correlation matrix, read at one index. -/
module

public import proofs.«01_k».proof.Proof.Gen.KernelIdeal.Skeleton
public import proofs.«01_k».proof.Proof.FirstMax
public import proofs.«01_k».proof.Proof.Entries
public import Idealize.ShloMosaic.Lib.Pointwise

@[expose] public section

set_option maxRecDepth 16384

noncomputable section

namespace Cert.Block

open Cert.KernelIdeal Cert.KernelIdeal.Gen Idealize.ShloMosaic Cert.Row

/-- The logits of the first eighty classes of a row. -/
abbrev objects (x : FVec Ideal S32x100x81 .f32) (b : Fin 32) (q : Fin 100) : Fin 80 → EReal :=
  fun k => x (ix3 b q (k.castLE (by decide)))

/-- The word of negative infinity. -/
theorem ofBits_neg_inf : Ideal.ofBits .f32 0xFF800000#32 = (⊥ : EReal) := by
  simp [Ideal.ofBits, Ideal.ieee]

/-- The greatest of the first eighty logits. -/
theorem pay3_at (x : FVec Ideal S32x100x81 .f32) (b : Fin 32) (q : Fin 100) : k0_pay3 (F := Ideal) x (ix3 b q 0) = top (objects x b q) := by
  pointwise [k0_pay3, k0_pay2]
  rw [ofBits_neg_inf]
  rfl

/-- The label: the number of the first of the greatest of them. -/
theorem pay4_at (x : FVec Ideal S32x100x81 .f32) (b : Fin 32) (q : Fin 100) (k : Fin 80) (hk : IsFirst (objects x b q) k) :
    k0_pay4 (F := Ideal) x (ix2 b q) = BitVec.ofNat 32 k.val := by
  pointwise [k0_pay4, k0_pay2]
  simp only [pay3_at]
  exact least_label (objects x b q) k hk

/-- The score: the quotient of the softmax at the greatest of the first eighty logits. -/
theorem pay5_at (x : FVec Ideal S32x100x81 .f32) (b : Fin 32) (q : Fin 100) :
    k0_pay5 (F := Ideal) x (ix3 b q 0)
      = Ideal.div (Ideal.exp (top (objects x b q) - top fun i => x (ix3 b q i)))
          (∑ i, Ideal.exp (x (ix3 b q i) - top fun j => x (ix3 b q j))) := by
  pointwise [k0_pay5]
  simp only [pay3_at, ofBits_neg_inf]
  rfl

/-- The verbs' sigmoids. -/
theorem pay6_at (x : FVec Ideal S32x100x29 .f32) (b : Fin 32) (q : Fin 100) (v : Fin 29) :
    k0_pay6 (F := Ideal) x (ix3 b q v) = sigmoid (x (ix3 b q v)) := by
  pointwise [k0_pay6]
  rfl

/-- The comparison of each class number with the label. -/
theorem pay17_at (l : IVec S32x100 32) (b : Fin 32) (q : Fin 100) (k : Fin 80) :
    k0_pay17 (iota .tc S32x100x80 32 [2] iota_S32x100x80_d2_w32) l (ix3 b q k) = IntOp.cmpi .eq (BitVec.ofNat 32 k.val) (l (ix2 b q)) := by
  pointwise [k0_pay17]

/-- The block's scores: sigmoid times object score, times the product of the compared classes with the correlation matrix. -/
theorem pay1_at (s : FVec Ideal S32x100x1 .f32) (g : FVec Ideal S32x100x29 .f32) (o : IVec S32x100x80 1) (c : FVec Ideal S80x29 .f32)
    (b : Fin 32) (q : Fin 100) (v : Fin 29) :
    k0_pay1 (F := Ideal) s g o c (ix3 b q v) = g (ix3 b q v) * s (ix3 b q 0) *
      ∑ k : Fin 80, FloatOps.sitofp (F := Ideal) .f32 ((o (ix3 b q k)).setWidth 32) * c (ix2 k v) := by
  pointwise [k0_pay1]

end Cert.Block
end
-- ==== Proof.BlockBox.lean ====
/- What one block computes from its boxes and image sizes, read at one lane: lane `4 q + v` of a row holds
   coordinate `v` of the row's box `q`. -/
module

public import proofs.«01_k».proof.Proof.Gen.KernelIdeal.Skeleton
public import proofs.«01_k».proof.Proof.Entries
public import Idealize.ShloMosaic.Lib.Pointwise

@[expose] public section

set_option maxRecDepth 16384

noncomputable section

namespace Cert.Block

open Cert.KernelIdeal Cert.KernelIdeal.Gen Idealize.ShloMosaic Cert.Row

/-- The divisor the block divides lane numbers by: `n`, or one where that is zero. -/
abbrev divisor (n : BitVec 32) : BitVec 32 := Scalar.select (Scalar.cmpi .eq n 0#32) 1#32 n

/-- The remainder of a lane number by `n`, given the sign of the divisor. -/
abbrev laneMod (n : BitVec 32) (l : ℕ) : BitVec 32 :=
  Scalar.select
    (IntOp.andi
      (IntOp.xori (IntOp.cmpi .slt (IntOp.remsi .vector (BitVec.ofNat 32 l) (divisor n)) 0#32) (Scalar.cmpi .slt (divisor n) 0#32))
      (IntOp.cmpi .ne (IntOp.remsi .vector (BitVec.ofNat 32 l) (divisor n)) 0#32))
    (IntOp.addi (IntOp.remsi .vector (BitVec.ofNat 32 l) (divisor n)) (divisor n))
    (IntOp.remsi .vector (BitVec.ofNat 32 l) (divisor n))

/-- The even lanes, as the block tells them. -/
theorem lane_even : ∀ l : Fin 400, IntOp.cmpi .eq (laneMod 2#32 l.val) 0#32 = BitVec.ofBool (decide (l.val % 2 = 0)) := by
  decide +kernel

/-- The lanes of a box's first two coordinates, as the block tells them. -/
theorem lane_first : ∀ l : Fin 400, IntOp.cmpi .slt (laneMod 4#32 l.val) 2#32 = BitVec.ofBool (decide (l.val % 4 < 2)) := by
  decide +kernel

/-- A choice by a decided proposition. -/
theorem select_ofBool {α : Type} (p : Prop) [Decidable p] (x y : α) :
    Scalar.select (BitVec.ofBool (decide p)) x y = if p then x else y := by
  by_cases h : p <;> simp [Scalar.select, h]

/-- An image's width or height, as a real. -/
abbrev extent (t : IVec S32x2 32) (b : Fin 32) (k : Fin 2) : EReal := FloatOps.sitofp (F := Ideal) .f32 (t (ix2 b k))

/-- The block's heights, as reals. -/
theorem pay8_at (t : IVec S32x2 32) (b : Fin 32) : k0_pay8 (F := Ideal) t (ix2 b 0) = extent t b 0 := by
  pointwise [k0_pay8, k0_pay7]

/-- The block's widths, as reals. -/
theorem pay9_at (t : IVec S32x2 32) (b : Fin 32) : k0_pay9 (F := Ideal) t (ix2 b 0) = extent t b 1 := by
  pointwise [k0_pay9, k0_pay7]

/-- The scale of a lane: the width at the even ones, the height at the others. -/
theorem pay12_at (h w : FVec Ideal S32x1 .f32) (b : Fin 32) (l : Fin 400) :
    k0_pay12 h w (Scalar.select (Scalar.cmpi .eq 2#32 0#32) 1#32 2#32) k0_pay10 k0_pay11 (ix2 b l)
      = if l.val % 2 = 0 then w (ix2 b 0) else h (ix2 b 0) := by
  pointwise [k0_pay12, k0_pay11, k0_pay10]
  rw [lane_even, select_ofBool]

/-- A corner coordinate out of a row of lanes: of the first two of a box, the lane less half of the lane two on;
    of the last two, the lane two back and half of the lane. -/
def laneCorner (g : Fin 400 → EReal) (l : Fin 400) : EReal :=
  if l.val % 4 < 2 then g l - oneHalf * (if h : l.val < 398 then g ⟨2 + l.val, by omega⟩ else 0)
  else (if h : l.val < 2 then 0 else g ⟨l.val - 2, by omega⟩) + oneHalf * g l

/-- What the block stores of a set of boxes at a lane: its corner coordinate, times the lane's scale. -/
theorem pay15_at (s : FVec Ideal S32x400 .f32) (x : FVec Ideal S32x400 .f32) (b : Fin 32) (l : Fin 400) :
    k0_pay15 (iota .tc S32x400 32 [1] iota_S32x400_d1_w32) s k0_pay13 x (ix2 b l)
      = laneCorner (fun l => x (ix2 b l)) l * s (ix2 b l) := by
  pointwise [k0_pay15, k0_pay13]
  rw [lane_first, select_ofBool]
  rfl

/-- The two sets of boxes are treated alike. -/
theorem pay14_eq (h w : FVec Ideal S32x1 .f32) (i : IVec S32x400 32) (x : FVec Ideal S32x400 .f32) :
    k0_pay14 h w i (Scalar.select (Scalar.cmpi .eq 2#32 0#32) 1#32 2#32) k0_pay10 k0_pay11 x
      = k0_pay15 i (k0_pay12 h w (Scalar.select (Scalar.cmpi .eq 2#32 0#32) 1#32 2#32) k0_pay10 k0_pay11) k0_pay13 x := rfl

/-- At lane `4 q + v` it is corner coordinate `v` of box `q`. -/
theorem laneCorner_eq (g : Fin 400 → EReal) (w h : EReal) (q : Fin 100) (v : Fin 4) (l : Fin 400) (hl : l.val = q.val * 4 + v.val) :
    laneCorner g l * (if l.val % 2 = 0 then w else h) = corner (fun i => g ⟨q.val * 4 + i.val, by omega⟩) w h v := by
  have hq := q.2
  have e : ∀ (n : ℕ) (hn : n < 400) (i : Fin 4), n = q.val * 4 + i.val → g ⟨n, hn⟩ = g ⟨q.val * 4 + i.val, by omega⟩ :=
    fun n hn i hi => congrArg g (Fin.ext hi)
  have hg : g l = g ⟨q.val * 4 + v.val, by omega⟩ := congrArg g (Fin.ext hl)
  unfold laneCorner
  rw [hg]
  match v, hl with
  | 0, hl =>
    have hl : l.val = q.val * 4 := hl
    rw [if_pos (by omega), if_pos (by omega), dif_pos (by omega), e (2 + l.val) _ 2 (by simp; omega)]
    rfl
  | 1, hl =>
    have hl : l.val = q.val * 4 + 1 := hl
    rw [if_pos (by omega), if_neg (by omega), dif_pos (by omega), e (2 + l.val) _ 3 (by simp; omega)]
    rfl
  | 2, hl =>
    have hl : l.val = q.val * 4 + 2 := hl
    rw [if_neg (by omega), if_pos (by omega), dif_neg (by omega), e (l.val - 2) _ 0 (by simp; omega)]
    rfl
  | 3, hl =>
    have hl : l.val = q.val * 4 + 3 := hl
    rw [if_neg (by omega), if_neg (by omega), dif_neg (by omega), e (l.val - 2) _ 1 (by simp; omega)]
    rfl

/-- What the block stores for one set of boxes. -/
theorem box_at (t : IVec S32x2 32) (x : FVec Ideal S32x400 .f32) (b : Fin 32) (q : Fin 100) (v : Fin 4) (l : Fin 400)
    (hl : l.val = q.val * 4 + v.val) :
    k0_pay15 (F := Ideal) (iota .tc S32x400 32 [1] iota_S32x400_d1_w32)
        (k0_pay12 (k0_pay8 t) (k0_pay9 t) (Scalar.select (Scalar.cmpi .eq 2#32 0#32) 1#32 2#32) k0_pay10 k0_pay11) k0_pay13 x (ix2 b l)
      = corner (fun i => x (ix2 b ⟨q.val * 4 + i.val, by omega⟩)) (extent t b 1) (extent t b 0) v := by
  rw [pay15_at, pay12_at, pay8_at, pay9_at]
  exact laneCorner_eq (fun l => x (ix2 b l)) _ _ q v l hl

end Cert.Block
end
-- ==== Proof.Blocks.lean ====
/- The blocks the kernel reads: what each grid point finds of each argument, read at one index. -/
module

public import proofs.«01_k».proof.Proof.Gen.KernelIdeal.Frame
public import proofs.«01_k».proof.Proof.BlockClass
public import proofs.«01_k».proof.Proof.BlockBox
public import Idealize.ShloMosaic.Lib.Pipeline.ValueKit
public import Idealize.ShloMosaic.Lib.Claim

@[expose] public section

set_option maxRecDepth 16384

noncomputable section

namespace Cert.Block

open Cert.KernelIdeal Cert.KernelIdeal.Gen Idealize.ShloMosaic Idealize.ShloMosaic.TcCoe Idealize.SL.Sem Cert.Row

variable (m : (ℓ : Loc nD τ sig) → Buf (Elt Ideal) ℓ)

/-- The image that row `b` of block `t` holds. -/
abbrev image (t : Fin cfg0.N) (b : Fin 32) : Fin 1024 :=
  ⟨t.val * 32 + b.val, by have := t.isLt; have h : cfg0.N = 32 := N_0; omega⟩

/-- Window 0's block numbers at a point. -/
theorem index_0 : ∀ t : Fin cfg0.N, win0_0.index t = ![t.val, 0, 0] := (by decide +kernel : ∀ t : Fin grid0.N, _)
/-- Window 1's block numbers at a point. -/
theorem index_1 : ∀ t : Fin cfg0.N, win0_1.index t = ![t.val, 0, 0] := (by decide +kernel : ∀ t : Fin grid0.N, _)
/-- Window 2's block numbers at a point. -/
theorem index_2 : ∀ t : Fin cfg0.N, win0_2.index t = ![t.val, 0] := (by decide +kernel : ∀ t : Fin grid0.N, _)
/-- Window 3's block numbers at a point. -/
theorem index_3 : ∀ t : Fin cfg0.N, win0_3.index t = ![t.val, 0] := (by decide +kernel : ∀ t : Fin grid0.N, _)
/-- Window 4's block numbers at a point. -/
theorem index_4 : ∀ t : Fin cfg0.N, win0_4.index t = ![t.val, 0] := (by decide +kernel : ∀ t : Fin grid0.N, _)
/-- Window 5's block numbers at a point. -/
theorem index_5 : ∀ t : Fin cfg0.N, win0_5.index t = ![0, 0] := (by decide +kernel : ∀ t : Fin grid0.N, _)
/-- Window 6's block numbers at a point. -/
theorem index_6 : ∀ t : Fin cfg0.N, win0_6.index t = ![t.val, 0] := (by decide +kernel : ∀ t : Fin grid0.N, _)
/-- Window 7's block numbers at a point. -/
theorem index_7 : ∀ t : Fin cfg0.N, win0_7.index t = ![t.val, 0] := (by decide +kernel : ∀ t : Fin grid0.N, _)
/-- Window 8's block numbers at a point. -/
theorem index_8 : ∀ t : Fin cfg0.N, win0_8.index t = ![t.val, 0, 0] := (by decide +kernel : ∀ t : Fin grid0.N, _)

/-- The block of the object logits. -/
theorem logits_at (c : Dev nD) (t : Fin cfg0.N) (b : Fin 32) (q : Fin 100) (k : Fin 81) :
    (iblk m c 0 t : Vec Ideal S32x100x81 .f32) (ix3 b q k) = m ((c : Thread nD τ).loc main_arg0) (ix3 (image t b) q k) := by
  blk_simp [iblk, index_0 t]
  rw [show V m c (Pipeline.arrRef spec0 0) = m ((c : Thread nD τ).loc main_arg0) from V_main_arg0 m c]
  refine congrArg _ ?_
  blk_ext [index_0 t]

/-- The block of the verb logits. -/
theorem verbs_at (c : Dev nD) (t : Fin cfg0.N) (b : Fin 32) (q : Fin 100) (v : Fin 29) :
    (iblk m c 1 t : Vec Ideal S32x100x29 .f32) (ix3 b q v) = m ((c : Thread nD τ).loc main_arg1) (ix3 (image t b) q v) := by
  blk_simp [iblk, index_1 t]
  rw [show V m c (Pipeline.arrRef spec0 1) = m ((c : Thread nD τ).loc main_arg1) from V_main_arg1 m c]
  refine congrArg _ ?_
  blk_ext [index_1 t]

/-- The block of the image sizes. -/
theorem sizes_at (c : Dev nD) (t : Fin cfg0.N) (b : Fin 32) (k : Fin 2) :
    (iblk m c 4 t : Vec Ideal S32x2 .i32) (ix2 b k) = m ((c : Thread nD τ).loc main_arg4) (ix2 (image t b) k) := by
  blk_simp [iblk, index_4 t]
  rw [show V m c (Pipeline.arrRef spec0 4) = m ((c : Thread nD τ).loc main_arg4) from V_main_arg4 m c]
  refine congrArg _ ?_
  blk_ext [index_4 t]

/-- A row of four-entry boxes laid flat: lane `4 q + v` is entry `v` of box `q`. -/
theorem flat_at (x : FVec Ideal S1024x100x4 .f32) (r : Fin 1024) (q : Fin 100) (v : Fin 4) (l : Fin 400) (hl : l.val = q.val * 4 + v.val) :
    shapeCast S1024x400 x shapeCasts_S1024x100x4_S1024x400 (ix2 r l) = x (ix3 r q v) := by
  have e1 : (⟨l.val / 4, by omega⟩ : Fin 100) = q := by ext; simp only; omega
  have e2 : (⟨l.val % 4, by omega⟩ : Fin 4) = v := by ext; simp only; omega
  pointwise []
  rw [e1, e2]

/-- The first boxes as the grid finds them: the argument, each row laid flat. -/
theorem entry_subs (c : Dev nD) :
    V m c main_v2 = shapeCast S1024x400 (m ((c : Thread nD τ).loc main_arg2)) shapeCasts_S1024x100x4_S1024x400 := by
  unfold V V0
  simp only [hostOps0, List.flatten_cons, List.flatten_nil, List.append_nil, List.cons_append, List.nil_append]
  entry_read
  rfl

/-- The second boxes as the grid finds them: likewise. -/
theorem entry_objs (c : Dev nD) :
    V m c main_v3 = shapeCast S1024x400 (m ((c : Thread nD τ).loc main_arg3)) shapeCasts_S1024x100x4_S1024x400 := by
  unfold V V0
  simp only [hostOps0, List.flatten_cons, List.flatten_nil, List.append_nil, List.cons_append, List.nil_append]
  entry_read
  rfl

/-- The correlation matrix as the grid finds it: its transpose, without the last class. -/
theorem entry_corr (c : Dev nD) :
    V m c main_v1 = extractStridedSlice S80x29 ![0, 0]
      (transpose S81x29 [1, 0] (m ((c : Thread nD τ).loc main_arg5)) transposes_S29x81_S81x29_1_0) slices_S81x29_S80x29_0_0 := by
  unfold V V0
  simp only [hostOps0, List.flatten_cons, List.flatten_nil, List.append_nil, List.cons_append, List.nil_append]
  entry_read
  rfl

/-- The transpose without its last row, read at an index. -/
theorem turned_at (x : FVec Ideal S29x81 .f32) (k : Fin 80) (v : Fin 29) :
    extractStridedSlice S80x29 ![0, 0] (transpose S81x29 [1, 0] x transposes_S29x81_S81x29_1_0) slices_S81x29_S80x29_0_0 (ix2 k v)
      = x (ix2 v (k.castLE (by decide))) := by
  pointwise []
  rfl

/-- The block of the first boxes: lane `4 q + v` of a row is entry `v` of the image's box `q`. -/
theorem subs_at (c : Dev nD) (t : Fin cfg0.N) (b : Fin 32) (q : Fin 100) (v : Fin 4) (l : Fin 400) (hl : l.val = q.val * 4 + v.val) :
    (iblk m c 2 t : Vec Ideal S32x400 .f32) (ix2 b l) = m ((c : Thread nD τ).loc main_arg2) (ix3 (image t b) q v) := by
  blk_simp [iblk, index_2 t]
  rw [show V m c (Pipeline.arrRef spec0 2) = _ from entry_subs m c,
    ← flat_at (m ((c : Thread nD τ).loc main_arg2)) (image t b) q v l hl]
  refine congrArg _ ?_
  blk_ext [index_2 t]

/-- The block of the second boxes: likewise. -/
theorem objs_at (c : Dev nD) (t : Fin cfg0.N) (b : Fin 32) (q : Fin 100) (v : Fin 4) (l : Fin 400) (hl : l.val = q.val * 4 + v.val) :
    (iblk m c 3 t : Vec Ideal S32x400 .f32) (ix2 b l) = m ((c : Thread nD τ).loc main_arg3) (ix3 (image t b) q v) := by
  blk_simp [iblk, index_3 t]
  rw [show V m c (Pipeline.arrRef spec0 3) = _ from entry_objs m c,
    ← flat_at (m ((c : Thread nD τ).loc main_arg3)) (image t b) q v l hl]
  refine congrArg _ ?_
  blk_ext [index_3 t]

/-- The correlation block: entry `k`, `v` is the argument's at verb `v` and class `k`. -/
theorem corr_at (c : Dev nD) (t : Fin cfg0.N) (k : Fin 80) (v : Fin 29) :
    (iblk m c 5 t : Vec Ideal S80x29 .f32) (ix2 k v) = m ((c : Thread nD τ).loc main_arg5) (ix2 v (k.castLE (by decide))) := by
  blk_simp [iblk, index_5 t]
  rw [show V m c (Pipeline.arrRef spec0 5) = _ from entry_corr m c, ← turned_at (m ((c : Thread nD τ).loc main_arg5)) k v]
  refine congrArg _ ?_
  blk_ext [index_5 t]

end Cert.Block
-- ==== Proof.Outs.lean ====
/- What each grid point leaves of each result, read at one index of its block. -/
module

public import proofs.«01_k».proof.Proof.Blocks

@[expose] public section

set_option maxRecDepth 16384

noncomputable section

namespace Cert.Block

open Cert.KernelIdeal Cert.KernelIdeal.Gen Idealize.ShloMosaic Idealize.ShloMosaic.TcCoe Idealize.SL.Sem Cert.Row

variable (x0 : Vec Ideal S32x100x81 .f32) (x1 : Vec Ideal S32x100x29 .f32) (x2 x3 : Vec Ideal S32x400 .f32)
  (x4 : Vec Ideal S32x2 .i32) (x5 : Vec Ideal S80x29 .f32)

/-- The first of the greatest of eighty numbers. -/
def first (l : Fin 80 → EReal) : Fin 80 := (exists_isFirst (by decide) l).choose

/-- That it is one. -/
theorem first_isFirst (l : Fin 80 → EReal) : IsFirst l (first l) := (exists_isFirst (by decide) l).choose_spec

/-- The labels of one block: a hundred ones in each row, then the hundred labels the block computes. -/
theorem labels_block (b : Fin 32) (q : Fin 200) :
    out0_6 x0 x1 x2 x3 x4 x5 (ix2 b q)
      = if h : q.val < 100 then 1#32 else BitVec.ofNat 32 (first (objects x0 b ⟨q.val - 100, by omega⟩)).val := by
  unfold_out out0_6
  rw [View.ld_unit_lit' _ x0 (by decide)]
  generalize hy : (ix2 b q : S32x200.Idx) = y
  have hb : (y 0).val = b.val := by rw [← hy]; rfl
  have hq : (y 1).val = q.val := by rw [← hy]; rfl
  canon_tiles x h
  · rw [dif_neg (by omega), ← pay4_at x0 b ⟨q.val - 100, by omega⟩ _ (first_isFirst _)]
    refine congrArg _ ?_
    ext a
    fin_cases a
    · show (x 0).val = b.val
      omega
    · show (x 1).val = q.val - 100
      omega
  · rw [dif_pos (by omega)]
    rfl

/-- The boxes of one block: four hundred lanes for the first boxes of a row, then four hundred for the second. -/
theorem boxes_block (b : Fin 32) (q : Fin 200) (v : Fin 4) (l : Fin 800) (hl : l.val = q.val * 4 + v.val) :
    out0_7 x0 x1 x2 x3 x4 x5 (ix2 b l)
      = if h : q.val < 100 then corner (fun i => x2 (ix2 b ⟨q.val * 4 + i.val, by omega⟩)) (extent x4 b 1) (extent x4 b 0) v
        else corner (fun i => x3 (ix2 b ⟨(q.val - 100) * 4 + i.val, by omega⟩)) (extent x4 b 1) (extent x4 b 0) v := by
  unfold_out out0_7
  rw [View.ld_unit_lit' _ x2 (by decide), View.ld_unit_lit' _ x3 (by decide), View.ld_unit_lit' _ x4 (by decide), pay14_eq]
  generalize hy : (ix2 b l : S32x800.Idx) = y
  have hb : (y 0).val = b.val := by rw [← hy]; rfl
  have hq : (y 1).val = l.val := by rw [← hy]; rfl
  canon_tiles x h
  · rw [dif_neg (by omega), ← box_at x4 x3 b ⟨q.val - 100, by omega⟩ v ⟨l.val - 400, by omega⟩ (by simp only; omega)]
    refine congrArg _ ?_
    ext a
    fin_cases a
    · show (x 0).val = b.val
      omega
    · show (x 1).val = l.val - 400
      omega
  · rw [dif_pos (by omega), ← box_at x4 x2 b ⟨q.val, by omega⟩ v ⟨l.val, by omega⟩ hl]
    refine congrArg _ ?_
    ext a
    fin_cases a
    · show (x 0).val = b.val
      omega
    · show (x 1).val = l.val
      omega

/-- A truth value as a real: one or zero. -/
theorem sitofp_eq (a k : Fin 80) :
    FloatOps.sitofp (F := Ideal) .f32 ((IntOp.cmpi .eq (BitVec.ofNat 32 a.val) (BitVec.ofNat 32 k.val)).setWidth 32) = if a = k then (1 : EReal) else 0 := by
  have h : BitVec.ofNat 32 a.val = BitVec.ofNat 32 k.val ↔ a = k := by
    rw [← BitVec.toNat_inj, BitVec.toNat_ofNat, BitVec.toNat_ofNat, Nat.mod_eq_of_lt (by omega), Nat.mod_eq_of_lt (by omega), Fin.ext_iff]
  by_cases e : a = k
  · subst e
    rw [if_pos rfl]
    simp [IntOp.cmpi, FloatOps.sitofp]
  · rw [if_neg e]
    have hf : (BitVec.ofNat 32 a.val == BitVec.ofNat 32 k.val) = false := by rw [beq_eq_false_iff_ne]; exact fun x => e (h.mp x)
    simp [IntOp.cmpi, FloatOps.sitofp, hf]

/-- A sum over the classes of a number that is one at class `k` only, times the entries `c`: the entry at `k`. -/
theorem one_hot (k : Fin 80) (c : Fin 80 → EReal) :
    (∑ a : Fin 80, FloatOps.sitofp (F := Ideal) .f32 ((IntOp.cmpi .eq (BitVec.ofNat 32 a.val) (BitVec.ofNat 32 k.val)).setWidth 32) * c a) = c k := by
  simp only [sitofp_eq]
  rw [Finset.sum_eq_single k (fun a _ h => by rw [if_neg h, zero_mul]) (fun h => absurd (Finset.mem_univ k) h), if_pos rfl, one_mul]

/-- The scores of one block: the verb's sigmoid, times the score of the first of the greatest logits, times the correlation
    entry of that class. -/
theorem scores_block (b : Fin 32) (q : Fin 100) (v : Fin 29) :
    out0_8 x0 x1 x2 x3 x4 x5 (ix3 b q v)
      = sigmoid (x1 (ix3 b q v))
        * Ideal.div (Ideal.exp (top (objects x0 b q) - top fun i => x0 (ix3 b q i))) (∑ i, Ideal.exp (x0 (ix3 b q i) - top fun j => x0 (ix3 b q j)))
        * x5 (ix2 (first (objects x0 b q)) v) := by
  frame_out
  unfold k0_pay19
  rw [View.ld_unit_lit' _ x0 (by decide), pay1_at, pay5_at, pay6_at]
  refine congrArg _ (Eq.trans (Finset.sum_congr rfl fun k _ => ?_) (one_hot (first (objects x0 b q)) fun k => x5 (ix2 k v)))
  rw [pay17_at, pay4_at x0 b q _ (first_isFirst _)]

end Cert.Block
-- ==== Proof.Arrays.lean ====
/- What the kernel's result arrays hold after the run, as functions of its arguments. -/
module

public import proofs.«01_k».proof.Proof.Outs

@[expose] public section

set_option maxRecDepth 16384

noncomputable section

namespace Cert.Block

open Cert.KernelIdeal Cert.KernelIdeal.Gen Idealize.ShloMosaic Idealize.ShloMosaic.TcCoe Idealize.SL.Sem Cert.Row

/-- The logits of query `q` of image `r`. -/
abbrev row (x : FVec Ideal S1024x100x81 .f32) (r : Fin 1024) (q : Fin 100) : Fin 81 → EReal := fun k => x (ix3 r q k)

/-- Those of the first eighty classes. -/
abbrev head (x : FVec Ideal S1024x100x81 .f32) (r : Fin 1024) (q : Fin 100) : Fin 80 → EReal := fun k => x (ix3 r q (k.castLE (by decide)))

/-- Image `r`'s height (`k = 0`) or width (`k = 1`). -/
abbrev side (t : IVec S1024x2 32) (r : Fin 1024) (k : Fin 2) : EReal := FloatOps.sitofp (F := Ideal) .f32 (t (ix2 r k))

/-- The labels: a hundred ones for each image, then each query's first greatest class. -/
def labels (x : FVec Ideal S1024x100x81 .f32) (r : Fin 1024) (q : Fin 200) : BitVec 32 :=
  if h : q.val < 100 then 1#32 else BitVec.ofNat 32 (first (head x r ⟨q.val - 100, by omega⟩)).val

/-- The boxes: the corners of the first set, then those of the second, scaled by the image's size. -/
def boxes (x y : FVec Ideal S1024x100x4 .f32) (t : IVec S1024x2 32) (r : Fin 1024) (q : Fin 200) (v : Fin 4) : EReal :=
  if h : q.val < 100 then corner (fun i => x (ix3 r ⟨q.val, h⟩ i)) (side t r 1) (side t r 0) v
  else corner (fun i => y (ix3 r ⟨q.val - 100, by omega⟩ i)) (side t r 1) (side t r 0) v

/-- The boxes of an image laid flat: lane `4 q + v` is coordinate `v` of box `q`. -/
def lanes (x y : FVec Ideal S1024x100x4 .f32) (t : IVec S1024x2 32) (r : Fin 1024) (l : Fin 800) : EReal :=
  boxes x y t r ⟨l.val / 4, by omega⟩ ⟨l.val % 4, by omega⟩

/-- The scores: the verb's sigmoid, times the greatest softmax value of the first eighty classes, times the correlation entry of the label. -/
def scores (x : FVec Ideal S1024x100x81 .f32) (g : FVec Ideal S1024x100x29 .f32) (c : FVec Ideal S29x81 .f32) (r : Fin 1024) (q : Fin 100) (v : Fin 29) : EReal :=
  sigmoid (g (ix3 r q v))
    * Ideal.div (Ideal.exp (top (head x r q) - top (row x r q))) (∑ i, Ideal.exp (row x r q i - top (row x r q)))
    * c (ix2 v ((first (head x r q)).castLE (by decide)))

variable (m : (ℓ : Loc nD τ sig) → Buf (Elt Ideal) ℓ)

/-- The logits of a block's row are those of its image. -/
theorem objects_at (c : Dev nD) (t : Fin cfg0.N) (b : Fin 32) (q : Fin 100) :
    objects (iblk m c 0 t : Vec Ideal S32x100x81 .f32) b q = head (m ((c : Thread nD τ).loc main_arg0)) (image t b) q :=
  funext fun k => logits_at m c t b q _

/-- What point `t` leaves of the labels. -/
theorem labels_point (c : Dev nD) (t : Fin cfg0.N) (b : Fin 32) (q : Fin 200) :
    out0_6 (iblk m c 0 t) (iblk m c 1 t) (iblk m c 2 t) (iblk m c 3 t) (iblk m c 4 t) (iblk m c 5 t) (ix2 b q)
      = labels (m ((c : Thread nD τ).loc main_arg0)) (image t b) q := by
  rw [labels_block]
  simp only [objects_at]
  rfl

/-- The size of a block's row is that of its image. -/
theorem extent_at (c : Dev nD) (t : Fin cfg0.N) (b : Fin 32) (k : Fin 2) :
    extent (iblk m c 4 t : Vec Ideal S32x2 .i32) b k = side (m ((c : Thread nD τ).loc main_arg4)) (image t b) k := by
  unfold extent
  rw [sizes_at]

/-- What point `t` leaves of the boxes. -/
theorem boxes_point (c : Dev nD) (t : Fin cfg0.N) (b : Fin 32) (q : Fin 200) (v : Fin 4) (l : Fin 800) (hl : l.val = q.val * 4 + v.val) :
    out0_7 (iblk m c 0 t) (iblk m c 1 t) (iblk m c 2 t) (iblk m c 3 t) (iblk m c 4 t) (iblk m c 5 t) (ix2 b l)
      = boxes (m ((c : Thread nD τ).loc main_arg2)) (m ((c : Thread nD τ).loc main_arg3)) (m ((c : Thread nD τ).loc main_arg4)) (image t b) q v := by
  rw [boxes_block _ _ _ _ _ _ b q v l hl, extent_at, extent_at]
  unfold boxes
  by_cases h : q.val < 100
  · rw [dif_pos h, dif_pos h]
    exact congrArg (fun f => corner f _ _ v) (funext fun i => subs_at m c t b ⟨q.val, h⟩ i _ rfl)
  · rw [dif_neg h, dif_neg h]
    exact congrArg (fun f => corner f _ _ v) (funext fun i => objs_at m c t b ⟨q.val - 100, by omega⟩ i _ rfl)

/-- What point `t` leaves of the scores. -/
theorem scores_point (c : Dev nD) (t : Fin cfg0.N) (b : Fin 32) (q : Fin 100) (v : Fin 29) :
    out0_8 (iblk m c 0 t) (iblk m c 1 t) (iblk m c 2 t) (iblk m c 3 t) (iblk m c 4 t) (iblk m c 5 t) (ix3 b q v)
      = scores (m ((c : Thread nD τ).loc main_arg0)) (m ((c : Thread nD τ).loc main_arg1)) (m ((c : Thread nD τ).loc main_arg5)) (image t b) q v := by
  rw [scores_block, objects_at, verbs_at, corr_at]
  simp only [logits_at]
  rfl

/-- The label array after the run. -/
theorem labels_array (c : Dev nD) :
    (dats m 0 c).arrAt 6 cfg0.N = fun i : S1024x200.Idx => labels (m ((c : Thread nD τ).loc main_arg0)) (i 0) (i 1) := by
  refine (dats m 0 c).arrAt_eq_of_covers 6 _ (by decide +kernel) fun t hf y => ?_
  blk_simp
  rw [after0_6]
  have e0 : ((win0_6.blk t).view.emb y : S1024x200.Idx) = ix2 (image t (y 0)) (y 1) := by blk_ext [index_6 t]
  rw [e0]
  exact (congrArg _ (ix2_eta y).symm).trans (labels_point m c t (y 0) (y 1))

/-- The box array after the run: lane `4 q + v` of an image's row is coordinate `v` of its box `q`. -/
theorem boxes_array (c : Dev nD) :
    (dats m 0 c).arrAt 7 cfg0.N = fun i : S1024x800.Idx =>
      lanes (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  blk_simp
  rw [after0_7]
  have e0 : ((win0_7.blk t).view.emb y : S1024x800.Idx) = ix2 (image t (y 0)) (y 1) := by blk_ext [index_7 t]
  rw [e0]
  exact (congrArg _ (ix2_eta y).symm).trans (boxes_point m c t (y 0) _ _ (y 1) (Nat.div_add_mod' _ 4).symm)

/-- The score array after the run. -/
theorem scores_array (c : Dev nD) :
    (dats m 0 c).arrAt 8 cfg0.N = fun i : S1024x100x29.Idx =>
      scores (m ((c : Thread nD τ).loc main_arg0)) (m ((c : Thread nD τ).loc main_arg1)) (m ((c : Thread nD τ).loc main_arg5)) (i 0) (i 1) (i 2) := by
  refine (dats m 0 c).arrAt_eq_of_covers 8 _ (by decide +kernel) fun t hf y => ?_
  blk_simp
  rw [after0_8]
  have e0 : ((win0_8.blk t).view.emb y : S1024x100x29.Idx) = ix3 (image t (y 0)) (y 1) (y 2) := by blk_ext [index_8 t]
  rw [e0]
  exact (congrArg _ (ix3_eta y).symm).trans (scores_point m c t (y 0) (y 1) (y 2))

end Cert.Block
-- ==== Proof.RefValue.lean ====
/- The reference's stretches, read at one index. -/
module

public import proofs.«01_k».proof.Proof.RefTerms
public import proofs.«01_k».proof.Proof.FirstMax
public import Idealize.ShloMosaic.Lib.Pointwise

@[expose] public section

set_option maxRecDepth 16384

noncomputable section

namespace Cert.RefRun

open Cert.ReferenceIdeal Cert.ReferenceIdeal.Facts Cert.ReferenceIdeal.Facts₀ Idealize.ShloMosaic Cert.Row

/-- The word of -∞ denotes -∞. -/
theorem ofBits_neg_inf : Ideal.ofBits .f32 0xFF800000#32 = (⊥ : EReal) := by
  simp [Ideal.ofBits, Ideal.ieee]

/-- The greatest entry of every row, before it is bounded below by -∞. -/
theorem rowFold_at (x : FVec Ideal S1024x100x81 .f32) (b : Fin 1024) (q : Fin 100) :
    Host.reduce FloatOps.maximumf x (constant S_ .f32 0xFF800000#32) reducesTo_S1024x100x81_S1024x100_d2 h_S_ (ix2 b q)
      = Finset.univ.fold max (Ideal.ofBits .f32 0xFF800000#32) fun k => x (ix3 b q k) := by
  pointwise

/-- The bound below is -∞ everywhere. -/
theorem bound_at (y : FVec Ideal S1024x100 .f32) (b : Fin 1024) (q : Fin 100) :
    maximumf (broadcastInDim S1024x100 ![] bcast_S_S1024x100 (constant S_ .f32 0xFF800000#32)) y (ix2 b q)
      = max (Ideal.ofBits .f32 0xFF800000#32) (y (ix2 b q)) := by
  pointwise

/-- The greatest logit of a row. -/
theorem rowMax_at (x : FVec Ideal S1024x100x81 .f32) (b : Fin 1024) (q : Fin 100) :
    rowMax x (ix2 b q) = top fun k => x (ix3 b q k) := by
  unfold rowMax
  rw [bound_at, rowFold_at, ofBits_neg_inf]
  exact max_eq_right bot_le

/-- The exponential of a logit less its row's greatest. -/
theorem weights_at (x : FVec Ideal S1024x100x81 .f32) (b : Fin 1024) (q : Fin 100) (k : Fin 81) :
    weights x (ix3 b q k) = Ideal.exp (x (ix3 b q k) - rowMax x (ix2 b q)) := by
  pointwise [weights, spread]

/-- The softmax is the weight over the sum of the row's weights. -/
theorem probs_quot (x : FVec Ideal S1024x100x81 .f32) (b : Fin 1024) (q : Fin 100) (k : Fin 81) :
    probs x (ix3 b q k) = Ideal.div (weights x (ix3 b q k)) (∑ i : Fin 81, weights x (ix3 b q i)) := by
  pointwise [probs, spread]

/-- The probabilities of a row are the softmax of its logits. -/
theorem probs_at (x : FVec Ideal S1024x100x81 .f32) (b : Fin 1024) (q : Fin 100) (k : Fin 81) :
    probs x (ix3 b q k) = prob (fun i => x (ix3 b q i)) k := by
  rw [probs_quot]
  simp only [weights_at, rowMax_at]
  rfl

/-- The softmax values of the first eighty classes. -/
theorem objProbs_at (p : FVec Ideal S1024x100x81 .f32) (b : Fin 1024) (q : Fin 100) (k : Fin 80) :
    objProbs p (ix3 b q k) = p (ix3 b q (k.castLE (by decide))) := by
  pointwise [objProbs]
  rfl

/-- The greatest of eighty values of a row, as a fold. -/
theorem scoreFold_at (y : FVec Ideal S1024x100x80 .f32) (b : Fin 1024) (q : Fin 100) :
    Host.reduce FloatOps.maximumf y (constant S_ .f32 0xFF800000#32) reducesTo_S1024x100x80_S1024x100_d2 h_S_ (ix2 b q)
      = Finset.univ.fold max (Ideal.ofBits .f32 0xFF800000#32) fun k => y (ix3 b q k) := by
  pointwise

/-- The best score of a row is the greatest probability of its first eighty classes. -/
theorem bestScore_at (x : FVec Ideal S1024x100x81 .f32) (b : Fin 1024) (q : Fin 100) :
    bestScore (probs x) (ix2 b q) = top fun k : Fin 80 => prob (fun i => x (ix3 b q i)) (k.castLE (by decide)) := by
  unfold bestScore
  rw [scoreFold_at, ofBits_neg_inf]
  simp only [objProbs_at, probs_at]
  rfl

end Cert.RefRun
end
-- ==== Proof.RefLabel.lean ====
/- The reference's stretches, read at one index: the labels. -/
module

public import proofs.«01_k».proof.Proof.RefValue
public import proofs.«01_k».proof.Proof.FirstMax
public import Idealize.ShloMosaic.Lib.Pointwise

@[expose] public section

set_option maxRecDepth 16384

noncomputable section

namespace Cert.RefRun

open Cert.ReferenceIdeal Cert.ReferenceIdeal.Facts Cert.ReferenceIdeal.Facts₀ Idealize.ShloMosaic Cert.Row

/-- The pairs compared for a row: its eighty entries, each with its class number. -/
theorem mem_pairs (y : FVec Ideal S1024x100x80 .f32) (b : Fin 1024) (q : Fin 100) (e : EReal × BitVec 32) :
    e ∈ Host.argReduceFiber y (iotaInDim S1024x100x80 32 2) reducesTo_S1024x100x80_S1024x100_d2 (ix2 b q)
      ↔ ∃ k : Fin 80, e = (y (ix3 b q k), BitVec.ofNat 32 k.val) := by
  have h : S1024x100x80.Reduces [2] S1024x100 := by decide
  have hl : ∀ k : Fin (S1024x100x80.size 2), h.lift (ix2 b q) k = ix3 b q k := by
    intro k; funext a; fin_cases a <;> rfl
  have hd : ∀ k : Fin 80, h.drop (ix3 b q k) = ix2 b q := fun k =>
    (congrArg h.drop (hl k)).symm.trans (h.drop_lift (ix2 b q) k)
  unfold Host.argReduceFiber
  simp only [List.mem_map, List.mem_filter, List.mem_finRange, true_and, decide_eq_true_eq]
  rw [Shape.ReducesTo.drop_eq_drop _ h]
  constructor
  · rintro ⟨n, hn, rfl⟩
    have hm : S1024x100x80.rowMajor.symm n ∈ Finset.univ.filter fun i => h.drop i = ix2 b q := by simpa using hn
    rw [h.filter_drop_eq_image_lift] at hm
    obtain ⟨k, -, hk⟩ := Finset.mem_image.1 hm
    exact ⟨k, by rw [hk.symm.trans (hl k)]; rfl⟩
  · rintro ⟨k, rfl⟩
    refine ⟨S1024x100x80.rowMajor (ix3 b q k), ?_, ?_⟩
    · rw [Equiv.symm_apply_apply, hd]
    · rw [Equiv.symm_apply_apply]; rfl

/-- The comparison keeps one of its two pairs, ahead of both. -/
theorem reducer_ahead (a b : Ideal .f32 × BitVec 32) :
    (reducer_argmax_f32_i32 (F := Ideal) a b = a ∨ reducer_argmax_f32_i32 (F := Ideal) a b = b)
      ∧ Ahead (reducer_argmax_f32_i32 (F := Ideal) a b) a ∧ Ahead (reducer_argmax_f32_i32 (F := Ideal) a b) b := by
  obtain ⟨x, i⟩ := a
  obtain ⟨y, j⟩ := b
  have hr : reducer_argmax_f32_i32 (F := Ideal) (x, i) (y, j)
      = if (y : EReal) < x then (x, i) else if x = y ∧ i.toInt < j.toInt then (x, i) else (y, j) := by
    rcases lt_trichotomy (y : EReal) x with h | h | h
    · simp [reducer_argmax_f32_i32, Ideal.cmpf_def, Ideal.cmp, IntOp.ori, IntOp.andi, Scalar.select, h, h.ne']
    · subst h
      by_cases hij : i.toInt < j.toInt <;>
        simp [reducer_argmax_f32_i32, Ideal.cmpf_def, Ideal.cmp, IntOp.ori, IntOp.andi, IntOp.cmpi, Scalar.select, BitVec.slt_eq_decide, hij]
    · simp [reducer_argmax_f32_i32, Ideal.cmpf_def, Ideal.cmp, IntOp.ori, IntOp.andi, Scalar.select, h.not_gt, h.ne]
  rw [hr]
  by_cases h : (y : EReal) < x
  · rw [if_pos h]; exact ⟨Or.inl rfl, Ahead.refl _, Or.inl h⟩
  · rw [if_neg h]
    by_cases h' : x = y ∧ i.toInt < j.toInt
    · rw [if_pos h']; exact ⟨Or.inl rfl, Ahead.refl _, Or.inr ⟨h'.1.symm, h'.2.le⟩⟩
    · rw [if_neg h']
      refine ⟨Or.inr rfl, ?_, Ahead.refl _⟩
      rcases (not_lt.1 h).lt_or_eq with hlt | he
      · exact Or.inl hlt
      · exact Or.inr ⟨he, not_lt.1 fun hi => h' ⟨he, hi⟩⟩

/-- The best label of a row is the number of the first of its greatest probabilities. -/
theorem bestLabel_at (x : FVec Ideal S1024x100x81 .f32) (b : Fin 1024) (q : Fin 100) (k : Fin 80)
    (hk : IsFirst (fun k : Fin 80 => prob (fun i => x (ix3 b q i)) (k.castLE (by decide))) k) :
    bestLabel (probs x) (ix2 b q) = BitVec.ofNat 32 k.val := by
  exact argReduce_label reducer_argmax_f32_i32 reducer_ahead (objProbs (probs x)) (iotaInDim S1024x100x80 32 2)
    (constant S_ .f32 0xFF800000#32) (constantI S_ 32 0#32) reducesTo_S1024x100x80_S1024x100_d2 h_S_ (ix2 b q)
    ofBits_neg_inf rfl _ (fun e => by rw [mem_pairs]; simp only [objProbs_at, probs_at]) k hk

end Cert.RefRun
end
-- ==== Proof.RefEntries.lean ====
/- The reference's boxes and scores, read at one index. -/
module

public import proofs.«01_k».proof.Proof.RefTerms
public import proofs.«01_k».proof.Proof.Entries
public import Idealize.ShloMosaic.Lib.Pointwise

@[expose] public section

set_option maxRecDepth 16384

noncomputable section

namespace Cert.RefRun

open Cert.ReferenceIdeal Cert.ReferenceIdeal.Facts Cert.ReferenceIdeal.Facts₀ Idealize.ShloMosaic Cert.Row

/-- The verbs' sigmoids. -/
theorem sigm_at (x : FVec Ideal S1024x100x29 .f32) (b : Fin 1024) (q : Fin 100) (v : Fin 29) :
    sigm x (ix3 b q v) = sigmoid (x (ix3 b q v)) := by
  pointwise [sigm]
  rfl

/-- An image's width or height, as a real. -/
abbrev extent (t : IVec S1024x2 32) (b : Fin 1024) (k : Fin 2) : EReal := FloatOps.sitofp (F := Ideal) .f32 (t (ix2 b k))

/-- The corners of a box, scaled by its image's width and height. -/
theorem corners_at (x : FVec Ideal S1024x100x4 .f32) (t : IVec S1024x2 32) (b : Fin 1024) (q : Fin 100) (v : Fin 4) :
    corners x (scale t) (ix3 b q v) = corner (fun i => x (ix3 b q i)) (extent t b 1) (extent t b 0) v := by
  pointwise [corners, scale, column, widths, heights, half]
  fin_cases v <;> rfl

/-- The box result: the first set of boxes, then the second. -/
theorem boxesOut_at (x y : FVec Ideal S1024x100x4 .f32) (b : Fin 1024) (q : Fin 200) (v : Fin 4) :
    boxesOut x y (ix3 b q v) = if h : q.val < 100 then x (ix3 b ⟨q.val, h⟩ v) else y (ix3 b ⟨q.val - 100, by omega⟩ v) := by
  pointwise [boxesOut]

/-- The label result: a hundred ones, then the queries' labels. -/
theorem labelsOut_at (x : IVec S1024x100 32) (b : Fin 1024) (q : Fin 200) :
    labelsOut x (ix2 b q) = if h : q.val < 100 then 1#32 else x (ix2 b ⟨q.val - 100, by omega⟩) := by
  pointwise [labelsOut]

/-- An index that is not negative is kept as it is. -/
theorem wrapped_at (n : BitVec 32) (i : IVec S2969600 32) (j : Fin 2969600) (k : ℕ) (hk : k < 2147483648)
    (hi : i (ix1 j) = BitVec.ofNat 32 k) : wrapped n i (ix1 j) = BitVec.ofNat 32 k := by
  pointwise [wrapped]
  rw [hi]
  have hn : (BitVec.ofNat 32 k).toInt = k := toInt_ofNat k hk
  have hs : IntOp.cmpi .slt (BitVec.ofNat 32 k) 0#32 = 0#1 := by
    simp [IntOp.cmpi, BitVec.slt_eq_decide, hn, show ¬ ((k : ℤ) < 0) by omega]
  rw [hs]
  rfl

/-- The list of verb numbers: position `n` has verb `n % 29`. -/
theorem verbIx_at (n : Fin 2969600) : verbIx (ix1 n) = BitVec.ofNat 32 (n.val % 29) := by
  pointwise [verbIx]

/-- The list of labels: position `n` has the label of its query. -/
theorem labelIx_at (l : IVec S1024x100 32) (n : Fin 2969600) :
    labelIx l (ix1 n) = l (ix2 ⟨n.val / 2900, by omega⟩ ⟨n.val / 29 % 100, by omega⟩) := by
  pointwise [labelIx]

/-- The first of each pair of indices is the verb's. -/
theorem pairIx_zero (l : IVec S1024x100 32) (n : Fin 2969600) : pairIx l (ix2 n 0) = wrapped 29#32 verbIx (ix1 n) := by
  pointwise [pairIx]

/-- The second is the label's. -/
theorem pairIx_one (l : IVec S1024x100 32) (n : Fin 2969600) : pairIx l (ix2 n 1) = wrapped 81#32 (labelIx l) (ix1 n) := by
  pointwise [pairIx]

/-- A matrix read at each pair of indices, each read signed and kept within its axis. -/
theorem gather_pair {α : Type} {N M n : ℕ} (d : GatherDims ⟨2, ![N, M]⟩ ⟨2, ![n, 2]⟩ ⟨1, ![n]⟩)
    (hcoll : d.collapsedSliceDims = [0, 1]) (hob : d.operandBatchingDims = []) (hsim : d.startIndexMap = [0, 1])
    (hivd : d.indexVectorDim = 1) (x : (⟨2, ![N, M]⟩ : Shape).Idx → α) (i : IVec ⟨2, ![n, 2]⟩ 32) (p : Fin n)
    (hN : 0 < N) (hM : 0 < M) :
    Host.gather d x i (ix1 p)
      = x (ix2 ⟨min (i (ix2 p 0)).toInt.toNat (N - 1), by omega⟩ ⟨min (i (ix2 p 1)).toInt.toNat (M - 1), by omega⟩) := by
  have hc : ∀ X : Fin 1, ((ix1 p : (⟨1, ![n]⟩ : Shape).Idx) X).val = p.val := fun X => by
    rw [Subsingleton.elim X 0]; rfl
  have hsi : ∀ (a : Fin 2) (c : Fin d.startIndexMap.length), c.val = a.val → d.siIdx (ix1 p) c = ix2 p a := by
    intro a c hca
    funext x
    apply Fin.ext
    unfold GatherDims.siIdx
    fin_cases x
    · rw [dif_neg (by rw [hivd]; simp)]
      exact hc _
    · rw [dif_pos (by rw [hivd])]
      exact hca
  unfold Host.gather
  congr 1
  funext a
  have hk : a ∉ d.sKept := by rw [GatherDims.mem_sKept, hcoll]; fin_cases a <;> simp
  have hb : a ∉ d.operandBatchingDims := by rw [hob]; exact List.not_mem_nil
  have hm : a ∈ d.startIndexMap := by rw [hsim]; fin_cases a <;> simp
  have hsl : d.sliceSizes a = 1 := d.slice_collapsed a (by rw [hcoll]; fin_cases a <;> simp)
  apply Fin.ext
  simp only [GatherDims.operandIdx, GatherDims.batchCoord_eq_zero _ _ _ hb, GatherDims.offCoord_eq_zero _ _ _ hk,
    Nat.add_zero, GatherDims.start, dif_pos hm]
  rw [hsi a _ (by simp only [hsim]; fin_cases a <;> rfl), hsl]
  fin_cases a <;> rfl

/-- The correlation entries read at the pairs, each index kept within the matrix. -/
theorem gather_at (cm : FVec Ideal S29x81 .f32) (i : IVec S2969600x2 32) (n : Fin 2969600) :
    Host.gather gather_S29x81_S2969600x2_S2969600_n_01_n_n_01_1_11 cm i (ix1 n)
      = cm (ix2 ⟨min (i (ix2 n 0)).toInt.toNat 28, by omega⟩ ⟨min (i (ix2 n 1)).toInt.toNat 80, by omega⟩) :=
  gather_pair _ rfl rfl rfl rfl cm i n (by decide) (by decide)

/-- A small number as a word, read back and kept within an axis that it is within. -/
theorem word_within (k m : ℕ) (hk : k ≤ m) (hm : m < 2147483648) : min (BitVec.ofNat 32 k).toInt.toNat m = k := by
  rw [toInt_ofNat _ (by omega)]
  omega

/-- Where the pair of indices is that of the verb `v` and the class `k`, the matrix's entry for the two is read. -/
theorem gather_words (cm : FVec Ideal S29x81 .f32) (i : IVec S2969600x2 32) (n : Fin 2969600) (v : Fin 29) (k : Fin 80)
    (h0 : i (ix2 n 0) = BitVec.ofNat 32 v.val) (h1 : i (ix2 n 1) = BitVec.ofNat 32 k.val) :
    Host.gather gather_S29x81_S2969600x2_S2969600_n_01_n_n_01_1_11 cm i (ix1 n) = cm (ix2 v (k.castLE (by decide))) := by
  have hv : (⟨min (i (ix2 n 0)).toInt.toNat 28, by omega⟩ : Fin 29) = v :=
    Fin.ext ((congrArg (fun w : BitVec 32 => min w.toInt.toNat 28) h0).trans (word_within v.val 28 (by omega) (by decide)))
  have hk : (⟨min (i (ix2 n 1)).toInt.toNat 80, by omega⟩ : Fin 81) = k.castLE (by decide) :=
    Fin.ext ((congrArg (fun w : BitVec 32 => min w.toInt.toNat 80) h1).trans (word_within k.val 80 (by omega) (by decide)))
  rw [gather_at, hv, hk]

/-- The mask of a query and verb is the entry read at its position in the list. -/
theorem maskOut_read (l : IVec S1024x100 32) (cm : FVec Ideal S29x81 .f32) (b : Fin 1024) (q : Fin 100) (v : Fin 29) :
    maskOut l cm (ix3 b q v) = Host.gather gather_S29x81_S2969600x2_S2969600_n_01_n_n_01_1_11 cm (pairIx l)
      (ix1 ⟨b.val * 2900 + q.val * 29 + v.val, by omega⟩) := by
  pointwise [maskOut]

/-- Where the label is the class `k`, the mask is the matrix's entry for the verb and that class. -/
theorem maskOut_at (l : IVec S1024x100 32) (cm : FVec Ideal S29x81 .f32) (b : Fin 1024) (q : Fin 100) (v : Fin 29) (k : Fin 80)
    (hk : l (ix2 b q) = BitVec.ofNat 32 k.val) : maskOut l cm (ix3 b q v) = cm (ix2 v (k.castLE (by decide))) := by
  obtain ⟨n, hn⟩ : ∃ n : Fin 2969600, n.val = b.val * 2900 + q.val * 29 + v.val := ⟨⟨_, by omega⟩, rfl⟩
  have h0 : wrapped 29#32 verbIx (ix1 n) = BitVec.ofNat 32 v.val := by
    refine wrapped_at _ _ _ _ (by omega) ?_
    rw [verbIx_at]
    congr 1
    omega
  have h1 : wrapped 81#32 (labelIx l) (ix1 n) = BitVec.ofNat 32 k.val := by
    refine wrapped_at _ _ _ _ (by omega) ?_
    rw [labelIx_at, ← hk]
    congr 2 <;> apply Fin.ext <;> simp only <;> omega
  have hr : maskOut l cm (ix3 b q v) = Host.gather gather_S29x81_S2969600x2_S2969600_n_01_n_n_01_1_11 cm (pairIx l) (ix1 n) := by
    rw [maskOut_read]
    congr 2
    exact Fin.ext hn.symm
  exact hr.trans (gather_words cm _ n v k ((pairIx_zero l n).trans h0) ((pairIx_one l n).trans h1))

/-- The score result: sigmoid, times best score, times mask. -/
theorem scoresOut_at (s : FVec Ideal S1024x100 .f32) (g : FVec Ideal S1024x100x29 .f32) (l : IVec S1024x100 32)
    (cm : FVec Ideal S29x81 .f32) (b : Fin 1024) (q : Fin 100) (v : Fin 29) :
    scoresOut s g l cm (ix3 b q v) = g (ix3 b q v) * s (ix2 b q) * maskOut l cm (ix3 b q v) := by
  pointwise [scoresOut]

end Cert.RefRun
end
-- ==== Proof.Equation.lean ====
/- The equation: entry by entry, the kernel's three results are the reference's. -/
module

public import proofs.«01_k».proof.Proof.Arrays
public import proofs.«01_k».proof.Proof.RefLabel
public import proofs.«01_k».proof.Proof.RefEntries

@[expose] public section

set_option maxRecDepth 16384

noncomputable section

namespace Cert.Equation

open Idealize.ShloMosaic Cert.Row Cert.Block Cert.RefRun

/-- Among the first eighty classes, the first greatest logit is the first greatest softmax value, no logit being infinite. -/
theorem first_prob (l : Fin 81 → EReal) (hl : ∀ k, l k < ⊤) :
    IsFirst (fun k : Fin 80 => prob l (k.castLE (by decide))) (first fun k : Fin 80 => l (k.castLE (by decide))) :=
  (first_isFirst _).congr fun j k => prob_le_iff l hl _ _

variable (x : FVec Ideal ⟨3, ![1024, 100, 81]⟩ .f32) (hx : ∀ i, x i < (⊤ : EReal))

include hx

/-- The reference's label of a query is its first greatest class. -/
theorem bestLabel_eq (r : Fin 1024) (q : Fin 100) : bestLabel (probs x) (ix2 r q) = BitVec.ofNat 32 (first (head x r q)).val :=
  bestLabel_at x r q _ (first_prob (row x r q) fun _ => hx _)

/-- The labels are the reference's. -/
theorem labels_eq : (fun i : (⟨2, ![1024, 200]⟩ : Shape).Idx => labels x (i 0) (i 1)) = labelsOut (bestLabel (probs x)) := by
  funext i
  obtain ⟨r, q, rfl⟩ : ∃ r q, i = ix2 r q := ⟨_, _, (ix2_eta i).symm⟩
  rw [labelsOut_at]
  simp only [bestLabel_eq x hx]
  rfl

/-- The scores are the reference's. -/
theorem scores_eq (g : FVec Ideal ⟨3, ![1024, 100, 29]⟩ .f32) (c : FVec Ideal ⟨2, ![29, 81]⟩ .f32) :
    (fun i : (⟨3, ![1024, 100, 29]⟩ : Shape).Idx => scores x g c (i 0) (i 1) (i 2))
      = scoresOut (bestScore (probs x)) (sigm g) (bestLabel (probs x)) c := by
  funext i
  obtain ⟨r, q, v, rfl⟩ : ∃ r q v, i = ix3 r q v := ⟨_, _, _, (ix3_eta i).symm⟩
  rw [scoresOut_at, sigm_at, bestScore_at, maskOut_at _ _ _ _ _ _ (bestLabel_eq x hx _ _),
    top_prob (fun k => x (ix3 r q k)) (fun _ => hx _) _ (by decide)]
  rfl

omit hx

/-- The flat boxes, folded back: box `q`'s coordinate `v`. -/
theorem folded_at (a : FVec Ideal ⟨2, ![1024, 800]⟩ .f32) (h : Shape.ShapeCasts ⟨2, ![1024, 800]⟩ ⟨3, ![1024, 200, 4]⟩)
    (r : Fin 1024) (q : Fin 200) (v : Fin 4) :
    shapeCast ⟨3, ![1024, 200, 4]⟩ a h (ix3 r q v) = a (ix2 r ⟨q.val * 4 + v.val, by omega⟩) := by
  pointwise []

/-- A lane of the flat boxes. -/
theorem lanes_at (x y : FVec Ideal ⟨3, ![1024, 100, 4]⟩ .f32) (t : IVec ⟨2, ![1024, 2]⟩ 32) (r : Fin 1024) (q : Fin 200) (v : Fin 4)
    (l : Fin 800) (hl : l.val = q.val * 4 + v.val) : lanes x y t r l = boxes x y t r q v := by
  have e1 : (⟨l.val / 4, by omega⟩ : Fin 200) = q := by ext; simp only; omega
  have e2 : (⟨l.val % 4, by omega⟩ : Fin 4) = v := by ext; simp only; omega
  unfold lanes
  rw [e1, e2]

/-- The boxes are the reference's. -/
theorem boxes_eq (x y : FVec Ideal ⟨3, ![1024, 100, 4]⟩ .f32) (t : IVec ⟨2, ![1024, 2]⟩ 32)
    (h : Shape.ShapeCasts ⟨2, ![1024, 800]⟩ ⟨3, ![1024, 200, 4]⟩) :
    shapeCast ⟨3, ![1024, 200, 4]⟩ (fun i : (⟨2, ![1024, 800]⟩ : Shape).Idx => lanes x y t (i 0) (i 1)) h
      = boxesOut (corners x (scale t)) (corners y (scale t)) := by
  funext i
  obtain ⟨r, q, v, rfl⟩ : ∃ r q v, i = ix3 r q v := ⟨_, _, _, (ix3_eta i).symm⟩
  rw [folded_at, boxesOut_at]
  simp only [corners_at]
  exact lanes_at x y t r q v _ rfl

end Cert.Equation
-- ==== Proof.lean ====
/- The proof of the claim: the frames, the idealization, and the equality of the three results. -/
module

public import proofs.«01_k».proof.Defs
public import proofs.«01_k».proof.Proof.Gen.Kernel.Frame
public import proofs.«01_k».proof.Proof.Gen.KernelIdeal.Run
public import proofs.«01_k».proof.Proof.RefResults
public import proofs.«01_k».proof.Proof.Equation
public import Idealize.ShloMosaic.Lib.Claim

@[expose] public section

set_option maxRecDepth 16384

noncomputable section

namespace Cert.Proof

open Idealize.ShloMosaic Idealize.ShloMosaic.TcCoe Idealize.SL.Sem

/-- The witness of what the precondition's program states. -/
instance preFacts : Cert.Pre_logits_below_inf.Facts := ⟨by decide⟩

/-- The word of positive infinity. -/
theorem ofBits_inf : Ideal.ofBits .f32 0x7F800000#32 = (⊤ : EReal) := by
  simp [Ideal.ofBits, Ideal.ieee]

/-- Every entry is below infinity. -/
def Below (x : FVec Ideal ⟨3, ![1024, 100, 81]⟩ .f32) : Prop := ∀ i, x i < (⊤ : EReal)

/-- The precondition says that every object logit is below infinity. -/
theorem below_inf (x : FVec Ideal ⟨3, ![1024, 100, 81]⟩ .f32) (b : Shape.BroadcastsInDim ⟨0, ![]⟩ ⟨3, ![1024, 100, 81]⟩ ![])
    (h : cmpf .olt x (broadcastInDim ⟨3, ![1024, 100, 81]⟩ ![] b (constant ⟨0, ![]⟩ .f32 0x7F800000#32)) = fun _ => 1#1) :
    Below x := by
  intro i
  have hi := congrFun h i
  rw [← ofBits_inf]
  change Ideal.cmp .olt (x i) (Ideal.ofBits .f32 0x7F800000#32) = 1#1 at hi
  by_contra hn
  simp [Ideal.cmp, hn] at hi

/-- The kernel's three results are the reference's. -/
theorem algebraic : Cert.algebraic_KernelIdeal_ReferenceIdeal_pre_logits_below_inf := by
  intro m g m' g' hpre hagree
  have hx : ∀ c : Dev Cert.KernelIdeal.nD, Below (m ((c : Thread Cert.KernelIdeal.nD Cert.KernelIdeal.τ).loc Cert.KernelIdeal.main_arg0)) :=
    fun c => below_inf _ _ (hpre c)
  refine ⟨_, _, _, Cert.KernelIdeal.Value.run m g, ?_⟩
  refine θ_run_mono (Cert.RefRun.run m' g') fun r h c => ?_
  obtain ⟨h0, h1, h2, h3, h4, h5⟩ := hagree c
  refine ⟨(h c _).trans ?_, (h c _).trans ?_, (h c _).trans ?_, (h c _).trans (Cert.RefRun.final_kept m' c _ (by decide)),
    (h c _).trans (Cert.RefRun.final_kept m' c _ (by decide)), (h c _).trans (Cert.RefRun.final_kept m' c _ (by decide)),
    (h c _).trans (Cert.RefRun.final_kept m' c _ (by decide)), (h c _).trans (Cert.RefRun.final_kept m' c _ (by decide)),
    (h c _).trans (Cert.RefRun.final_kept m' c _ (by decide))⟩
  · rw [Cert.RefRun.final_labels, h0]
    exact ((Cert.Block.labels_array m c).trans (Cert.Equation.labels_eq _ (hx c))).symm
  · rw [Cert.RefRun.final_boxes, h2, h3, h4]
    refine (Eq.trans ?_ (Cert.Equation.boxes_eq _ _ _ Cert.KernelIdeal.Gen.shapeCasts_S1024x800_S1024x200x4)).symm
    exact congrArg (fun a => shapeCast _ a _) (Cert.Block.boxes_array m c)
  · rw [Cert.RefRun.final_scores, h0, h1, h5]
    exact ((Cert.Block.scores_array m c).trans (Cert.Equation.scores_eq _ (hx c) _ _)).symm

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    Cert.RefRun.frame, fun m ρ _ => Cert.RefRun.frame m ρ trivial, trivial, algebraic⟩

end Cert.Proof
end
